-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S32x384x32x32 : Shape := ⟨4, ![32, 384, 32, 32]⟩
abbrev S32 : Shape := ⟨1, ![32]⟩
abbrev S1000x768 : Shape := ⟨2, ![1000, 768]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x384x32x32 .f32) (main_arg1 : IVec S32 32) (main_arg2 : FVec F S1000x768 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 1000#32
  let main_v2 : IVec S32 32 := broadcastInDim S32 ![] bcast_S_S32 main_c_0
  let main_v3 : IVec S32 1 := cmpi .slt main_arg1 main_v2
  let main_v4 : IVec S32 1 := andi main_v1 main_v3
  main_v4
-- ==== Kernel.lean ====
abbrev S32x384x32x32 : Shape := ⟨4, ![32, 384, 32, 32]⟩
abbrev S32 : Shape := ⟨1, ![32]⟩
abbrev S1000x768 : Shape := ⟨2, ![1000, 768]⟩
abbrev S32x768 : Shape := ⟨2, ![32, 768]⟩
abbrev S8 : Shape := ⟨1, ![8]⟩
abbrev S8x768 : Shape := ⟨2, ![8, 768]⟩
abbrev S_ : Shape := ⟨0, ![]⟩
abbrev S8x128 : Shape := ⟨2, ![8, 128]⟩
abbrev S1000x128 : Shape := ⟨2, ![1000, 128]⟩
abbrev S32x32x32x384 : Shape := ⟨4, ![32, 32, 32, 384]⟩
abbrev S32768x384 : Shape := ⟨2, ![32768, 384]⟩
abbrev S8192x384 : Shape := ⟨2, ![8192, 384]⟩
abbrev S1x384 : Shape := ⟨2, ![1, 384]⟩
abbrev S384 : Shape := ⟨1, ![384]⟩
abbrev S1024x384 : Shape := ⟨2, ![1024, 384]⟩

abbrev nBuf : Table → Nat
  | .hbm => 9
  | .local .tc .vmem => 6
  | .local .scVector .vmem => 2
  | _ => 0

abbrev bufTy : (tb : Table) → Fin (nBuf tb) → BufTy
  | .hbm, ⟨0, _⟩ => ⟨S32x384x32x32, .f32⟩
  | .hbm, ⟨1, _⟩ => ⟨S32, .i32⟩
  | .hbm, ⟨2, _⟩ => ⟨S1000x768, .f32⟩
  | .hbm, ⟨3, _⟩ => ⟨S32x768, .f32⟩
  | .hbm, ⟨4, _⟩ => ⟨S32x32x32x384, .f32⟩
  | .hbm, ⟨5, _⟩ => ⟨S32768x384, .f32⟩
  | .hbm, ⟨6, _⟩ => ⟨S32768x384, .f32⟩
  | .hbm, ⟨7, _⟩ => ⟨S32x32x32x384, .f32⟩
  | .hbm, ⟨8, _⟩ => ⟨S32x384x32x32, .f32⟩
  | .local .tc .vmem, ⟨0, _⟩ => ⟨S8x768, .f32⟩
  | .local .tc .vmem, ⟨1, _⟩ => ⟨S8x768, .f32⟩
  | .local .tc .vmem, ⟨2, _⟩ => ⟨S8192x384, .f32⟩
  | .local .tc .vmem, ⟨3, _⟩ => ⟨S8192x384, .f32⟩
  | .local .tc .vmem, ⟨4, _⟩ => ⟨S8192x384, .f32⟩
  | .local .tc .vmem, ⟨5, _⟩ => ⟨S8192x384, .f32⟩
  | .local .scVector .vmem, ⟨0, _⟩ => ⟨S8, .i32⟩
  | .local .scVector .vmem, ⟨1, _⟩ => ⟨S8x768, .f32⟩
  | _, _ => ⟨S32x384x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg2_scv : Ref sig .scVector := ⟨.hbm, 2, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 1 → Nat :=
  let arg1 : BitVec 32 := BitVec.ofNat 32 (i 1).val
  let c8_i32 : BitVec 32 := 8#32
  let v3 : BitVec 32 := Scalar.muli arg1 c8_i32
  ![v3.toNat]
def k0_off2 (i : grid0.Coords) : Fin 2 → Nat :=
  let arg1 : BitVec 32 := BitVec.ofNat 32 (i 1).val
  let c8_i32 : BitVec 32 := 8#32
  let v3 : BitVec 32 := Scalar.muli arg1 c8_i32
  let c0_i32_67_r1 : BitVec 32 := 0#32
  ![v3.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x384x32x32 : Shape := ⟨4, ![32, 384, 32, 32]⟩
abbrev S32 : Shape := ⟨1, ![32]⟩
abbrev S1000x768 : Shape := ⟨2, ![1000, 768]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x768 : Shape := ⟨2, ![32, 768]⟩
abbrev S32x384 : Shape := ⟨2, ![32, 384]⟩
abbrev S32x384x1x1 : Shape := ⟨4, ![32, 384, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x384x32x32, .f32⟩
  | .hbm, ⟨1, _⟩ => ⟨S32, .i32⟩
  | .hbm, ⟨2, _⟩ => ⟨S1000x768, .f32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S1, .i32⟩
  | .hbm, ⟨12, _⟩ => ⟨S_, .i32⟩
  | .hbm, ⟨13, _⟩ => ⟨S32x1, .i32⟩
  | .hbm, ⟨14, _⟩ => ⟨S32x1, .i1⟩
  | .hbm, ⟨15, _⟩ => ⟨S1x1, .i32⟩
  | .hbm, ⟨16, _⟩ => ⟨S32x1, .i32⟩
  | .hbm, ⟨17, _⟩ => ⟨S32x1, .i1⟩
  | .hbm, ⟨18, _⟩ => ⟨S32x1, .i1⟩
  | .hbm, ⟨19, _⟩ => ⟨S_, .i1⟩
  | .hbm, ⟨20, _⟩ => ⟨S32, .i1⟩
  | .hbm, ⟨21, _⟩ => ⟨S32x768, .f32⟩
  | .hbm, ⟨22, _⟩ => ⟨S32x768, .i1⟩
  | .hbm, ⟨23, _⟩ => ⟨S_, .f32⟩
  | .hbm, ⟨24, _⟩ => ⟨S32x768, .f32⟩
  | .hbm, ⟨25, _⟩ => ⟨S32x768, .f32⟩
  | .hbm, ⟨26, _⟩ => ⟨S32x384, .f32⟩
  | .hbm, ⟨27, _⟩ => ⟨S32x384, .f32⟩
  | .hbm, ⟨28, _⟩ => ⟨S32x384x1x1, .f32⟩
  | .hbm, ⟨29, _⟩ => ⟨S32x384x32x32, .f32⟩
  | .hbm, ⟨30, _⟩ => ⟨S32x384x32x32, .f32⟩
  | .hbm, ⟨31, _⟩ => ⟨S32x384x1x1, .f32⟩
  | .hbm, ⟨32, _⟩ => ⟨S32x384x32x32, .f32⟩
  | .hbm, ⟨33, _⟩ => ⟨S32x384x32x32, .f32⟩
  | _, _ => ⟨S32x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]
-- ==== Proof.Base.lean ====
/-
  What the whole proof shares: the program as the launch theorem sees it, the ghost state, names for the buffers, how
  the one SparseCore call's operands are dealt to its sixteen tasks, and the value each task leaves.

  The call gathers rows of the table: row `j` of the result is row `y j` of the table. Tile `i` of the call's SparseCore
  takes the indices `8 i … 8 i + 7` and writes the result's rows of those numbers; tiles from the fourth on find nothing
  to do. So tile `i`'s part of `y` and of the result is "those elements whose row, divided by eight, is `i`" — no element
  at all for an idle tile — and one description serves all sixteen. Every tile reads the table at once, each at its
  own share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the calls: the kernels', and the one TensorCore pipeline's entry. -/
abbrev ΛP [FloatOps F] : Labels := Pipeline.Sig Λ₀ (Fin 1) fun p => (pcfgs (F := F) p).Adm
/-- The SparseCore launch, as the program declares it. -/
abbrev K [FloatOps F] : SparseCore.Cfg τ sig (ΛP (F := F)) 1 := sc (F := F)
/-- The bodies of every label but the SparseCore launch's own. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call has sixteen tasks. -/
theorem tasks_eq [FloatOps F] : (K (F := F)).nSub 0 = 16 := rfl

/-- What the launch theorem asks of the declaration: its handshake semaphores are distinct and outlive the scopes. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the TensorCore pipeline's rounds, the transfers' counters -/

/-- The rounds of the launch's handshakes. -/
abbrev UH : Type := URounds (GSem nD τ sig) ℕ
/-- The rounds of the TensorCore pipeline's staging transfers. -/
abbrev UP : Type := URounds (GSem nD τ sig) Unit
/-- All three. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The buffers -/

variable (m : (ℓ : Loc nD τ sig) → Buf (Elt F) ℓ) (ρ : Dev nD → PrngReg)

/-- The image, the indices, the table and the gathered rows, on device `d`. -/
abbrev xLoc (d : Dev nD) : Loc nD τ sig := (SparseCore.T d).loc main_arg0
abbrev yLoc (d : Dev nD) : Loc nD τ sig := (SparseCore.T d).loc main_arg1
abbrev tLoc (d : Dev nD) : Loc nD τ sig := (SparseCore.T d).loc main_arg2
abbrev eLoc (d : Dev nD) : Loc nD τ sig := (SparseCore.T d).loc main_v0

/-- The same, as a vector subcore names them, and its two scratch buffers. -/
abbrev tV : Memref sig .scVector .hbm S1000x768 .f32 := Memref.whole main_arg2_scv
abbrev yV : Memref sig .scVector .hbm S32 .i32 := Memref.whole main_arg1_scv
abbrev eV : Memref sig .scVector .hbm S32x768 .f32 := Memref.whole main_v0_scv
abbrev sV : Memref sig .scVector .vmem S8 .i32 := Memref.whole cc0_scratch0
abbrev rV : Memref sig .scVector .vmem S8x768 .f32 := Memref.whole cc0_scratch1

/-- The element of a table or of a block of rows at row `a`, column `b`. -/
def at2 {n k : ℕ} (a : Fin n) (b : Fin k) : (⟨2, ![n, k]⟩ : Shape).Idx
  | ⟨0, _⟩ => a
  | ⟨1, _⟩ => b
/-- The element of a list at position `a`. -/
def at1 {n : ℕ} (a : Fin n) : (⟨1, ![n]⟩ : Shape).Idx
  | ⟨0, _⟩ => a

/-- The table's row a word names: its value, which is below 1000 (elsewhere the remainder: never met). -/
def rowNo (v : BitVec 32) : Fin 1000 := ⟨v.toNat % 1000, Nat.mod_lt _ (by decide)⟩

theorem rowNo_val {v : BitVec 32} (h : v.toNat < 1000) : (rowNo v).val = v.toNat := Nat.mod_eq_of_lt h

/-- The gathered rows: at row `a` and column `b`, the table's element at row `y a` and column `b`. -/
def gath (d : Dev nD) : Buf (Elt F) (eLoc d) := fun j =>
  m (tLoc d) (at2 (rowNo (m (yLoc d) (at1 (n := 32) (j 0)))) (j 1))

/-! ## What each task takes -/

/-- Task `i`'s indices. -/
abbrev ySet (i : Fin 16) : Finset S32.Idx := Finset.univ.filter fun j => (j 0).val / 8 = i.val
/-- Task `i`'s rows of the result. -/
abbrev eSet (i : Fin 16) : Finset S32x768.Idx := Finset.univ.filter fun j => (j 0).val / 8 = i.val

/-- Sets given by the value of one function are disjoint at distinct values. -/
theorem fibres_disjoint {X : Type} [Fintype X] [DecidableEq X] (f : X → ℕ) (i j : Fin 16) (h : i ≠ j) :
    Disjoint (Finset.univ.filter fun x : X => f x = i.val) (Finset.univ.filter fun x : X => f x = j.val) := by
  rw [Finset.disjoint_filter]; intro x _ hi hj; exact h (Fin.ext (hi.symm.trans hj))

/-- … and cover everything if every value is below sixteen. -/
theorem fibres_cover {X : Type} [Fintype X] [DecidableEq X] (f : X → ℕ) (hf : ∀ x, f x < 16) :
    (Finset.univ : Finset (Fin 16)).biUnion (fun i => Finset.univ.filter fun x : X => f x = i.val) = Finset.univ := by
  ext x; simp only [Finset.mem_biUnion, Finset.mem_univ, Finset.mem_filter, true_and, iff_true]
  exact ⟨⟨f x, hf x⟩, rfl⟩

theorem yRow_lt (j : S32.Idx) : (j 0).val / 8 < 16 := by
  have : (j 0).val < 32 := (j 0).isLt
  omega
theorem eRow_lt (j : S32x768.Idx) : (j 0).val / 8 < 16 := by
  have : (j 0).val < 32 := (j 0).isLt
  omega

/-- Task `i`'s share of the table: one of sixteen pieces of the full share. -/
abbrev tq (i : Fin 16) : PosShare TreeShare := pieceOf fullShare 16 (by decide) i

/-! ## What the handshakes carry -/

abbrev yPts (d : Dev nD) : sProp 𝕄 := yLoc d ↦{fullShare} m (yLoc d)
abbrev tPts (d : Dev nD) : sProp 𝕄 := tLoc d ↦{fullShare} m (tLoc d)
abbrev ePts (d : Dev nD) (f : Buf (Elt F) (eLoc d)) : sProp 𝕄 := eLoc d ↦{fullShare} f
abbrev yPart (d : Dev nD) (i : Fin 16) : sProp 𝕄 := yLoc d ↦[ySet i]{fullShare} m (yLoc d)
abbrev tPart (d : Dev nD) (i : Fin 16) : sProp 𝕄 := tLoc d ↦{tq i} m (tLoc d)
abbrev ePart (d : Dev nD) (i : Fin 16) (f : Buf (Elt F) (eLoc d)) : sProp 𝕄 := eLoc d ↦[eSet i]{fullShare} f

theorem yPts_parts (d : Dev nD) : (yPts m d : sProp 𝕄) = bigSep Finset.univ fun i : Fin 16 => yPart m d i := by
  unfold yPts yPart
  rw [← pointsTo_biUnion Finset.univ (ℓ := yLoc d) ySet (fun i _ j _ h => fibres_disjoint (fun x : S32.Idx => (x 0).val / 8) i j h),
    fibres_cover (fun x : S32.Idx => (x 0).val / 8) yRow_lt]

theorem ePts_parts (d : Dev nD) (f : Buf (Elt F) (eLoc d)) :
    (ePts d f : sProp 𝕄) = bigSep Finset.univ fun i : Fin 16 => ePart d i f := by
  unfold ePts ePart
  rw [← pointsTo_biUnion Finset.univ (ℓ := eLoc d) eSet (fun i _ j _ h => fibres_disjoint (fun x : S32x768.Idx => (x 0).val / 8) i j h),
    fibres_cover (fun x : S32x768.Idx => (x 0).val / 8) eRow_lt]

theorem tPts_parts (d : Dev nD) : (tPts m d : sProp 𝕄) = bigSep Finset.univ fun i : Fin 16 => tPart m d i :=
  pointsTo_piecesOf Finset.univ (m (tLoc d)) (by decide) fullShare

variable [FloatOps F]

/-- The call takes the indices, the table and the result's buffer whole, and gives them back with the result holding
    the gathered rows; each task takes its indices, its share of the table and its rows of the result, and gives them
    back with its rows gathered. -/
def P : (K (F := F)).Pay (nD := nD) (Val := Elt F) (Name := ℕ) (U := UU) where
  st := fun q d _ => match q with | 0 => iprop(yPts m d ∗ tPts m d ∗ ePts d (m (eLoc d)))
  dn := fun q d _ => match q with | 0 => iprop(yPts m d ∗ tPts m d ∗ ePts d (gath m d))
  go := fun q d _ i => match q with
    | 0 => iprop(yPart m d (Fin.cast tasks_eq i) ∗ tPart m d (Fin.cast tasks_eq i) ∗ ePart d (Fin.cast tasks_eq i) (m (eLoc d)))
  td := fun q d _ i => match q with
    | 0 => iprop(yPart m d (Fin.cast tasks_eq i) ∗ tPart m d (Fin.cast tasks_eq i) ∗ ePart d (Fin.cast tasks_eq i) (gath m d))
  x := fun _ _ => iprop(emp)

instance P_storable : (P (F := F) m).IsStorable where
  st q d _ := match q with
    | 0 => (inferInstance : BI.Storable (upEmb : UEmb _ 𝕄) iprop(yPts m d ∗ tPts m d ∗ ePts d (m (eLoc d))))
  dn q d _ := match q with
    | 0 => (inferInstance : BI.Storable (upEmb : UEmb _ 𝕄) iprop(yPts m d ∗ tPts m d ∗ ePts d (gath m d)))
  go q d _ i := match q with
    | 0 => (inferInstance : BI.Storable (upEmb : UEmb _ 𝕄)
      iprop(yPart m d (Fin.cast tasks_eq i) ∗ tPart m d (Fin.cast tasks_eq i) ∗ ePart d (Fin.cast tasks_eq i) (m (eLoc d))))
  td q d _ i := match q with
    | 0 => (inferInstance : BI.Storable (upEmb : UEmb _ 𝕄)
      iprop(yPart m d (Fin.cast tasks_eq i) ∗ tPart m d (Fin.cast tasks_eq i) ∗ ePart d (Fin.cast tasks_eq i) (gath m d)))

/-- A family over the call's tasks is a family over sixteen numbers. -/
theorem bigSep_tasks (Φ : Fin 16 → sProp 𝕄) :
    (bigSep Finset.univ fun i : Fin ((K (F := F)).nSub 0) => Φ (Fin.cast tasks_eq i)) = bigSep Finset.univ Φ :=
  bigSep_congr fun _ _ => congrArg Φ (Fin.ext rfl)

/-- The call's operands are dealt to the tasks, and what the tasks give back is the call's result. -/
theorem vecSplit : (K (F := F)).VecSplit' (P m) 0 := by
  intro d c
  have deal (f : Buf (Elt F) (eLoc d)) :
      (bigSep Finset.univ fun i : Fin ((K (F := F)).nSub 0) =>
        iprop(yPart m d (Fin.cast tasks_eq i) ∗ tPart m d (Fin.cast tasks_eq i) ∗ ePart d (Fin.cast tasks_eq i) f))
      = (iprop(yPts m d ∗ tPts m d ∗ ePts d f) : sProp 𝕄) := by
    rw [bigSep_tasks (F := F) (fun i => iprop(yPart m d i ∗ tPart m d i ∗ ePart d i f)), bigSep_sep', bigSep_sep',
      yPts_parts, tPts_parts, ePts_parts]
  show iprop(yPts m d ∗ tPts m d ∗ ePts d (m (eLoc d))) ⊢ |={Set.univ}=> iprop(
      (bigSep Finset.univ fun i : Fin ((K (F := F)).nSub 0) =>
        iprop(yPart m d (Fin.cast tasks_eq i) ∗ tPart m d (Fin.cast tasks_eq i) ∗ ePart d (Fin.cast tasks_eq i) (m (eLoc d))))
      ∗ ((bigSep Finset.univ fun i : Fin ((K (F := F)).nSub 0) =>
          iprop(yPart m d (Fin.cast tasks_eq i) ∗ tPart m d (Fin.cast tasks_eq i) ∗ ePart d (Fin.cast tasks_eq i) (gath m d)))
          -∗ iprop(yPts m d ∗ tPts m d ∗ ePts d (gath m d))))
  rw [deal, deal]
  iintro H; imodintro
  isplitl [H]; · iexact H
  iintro H; iexact H

/-- What the proof asks of the launch memory: every index is below 1000, so names a row of the table. -/
def PreOK : Prop := ∀ (d : Dev nD) (j : S32.Idx), (m (yLoc d) j).toNat < 1000

end Cert.Proof.Rows

end
-- ==== Proof.Gather.lean ====
/-
  One indirect gather of a task: 128 columns of the task's eight rows, fetched from the table's same columns, and the
  wait for it. Stated once, at any column the slices allow; the task runs it six times.
-/
module

public import proofs.«01_k».proof.Proof.Base

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The subcore of a task's coordinates. -/
abbrev cV (L : grid0.Coords) : Fin τ.nSC := (L 0).castLE hcore0
abbrev jV (L : grid0.Coords) : Fin τ.nSub := (L 1).castLE hsub0
/-- Its thread on device `d`. -/
abbrev thr (d : Dev nD) (L : grid0.Coords) : Thread nD τ := V d (cV L) (jV L)

/-- That 128 columns from `o` lie within the table's, and within the row scratch's. -/
abbrev TIn (o : ℕ) : Prop := ∀ a, (![0, o] : Fin 2 → ℕ) a + S1000x128.size a ≤ S1000x768.size a
abbrev RIn (o : ℕ) : Prop := ∀ a, (![0, o] : Fin 2 → ℕ) a + S8x128.size a ≤ S8x768.size a

/-- The table's columns `o … o + 127`, as the gather names its source. -/
abbrev tCols (o : ℕ) (h : TIn o) : Memref sig .scVector .hbm S1000x128 .f32 :=
  ((tV).slice (Rect.unit (s := S1000x768) ![0, o] S1000x128.size h) (fun _ => rfl)).slice
    (Rect.unit (s := S1000x128) ![0, 0] S1000x128.size inb_S1000x128_S1000x128_0_0) (fun _ => rfl)
/-- The row scratch's columns `o … o + 127`, the gather's destination. -/
abbrev rCols (o : ℕ) (h : RIn o) : Memref sig .scVector .vmem S8x128 .f32 :=
  (rV).slice (Rect.unit (s := S8x768) ![0, o] S8x128.size h) (fun _ => rfl)

variable (m : (ℓ : Loc nD τ sig) → Buf (Elt F) ℓ) (d : Dev nD) (L : grid0.Coords)

/-- A task's two scratch buffers' contents. -/
abbrev SBuf : Type := Buf (Elt F) ((thr d L).loc cc0_scratch0)
abbrev RBuf : Type := Buf (Elt F) ((thr d L).loc cc0_scratch1)

/-- The eight rows the index scratch's words name. -/
def rowsOf (fo : SBuf (F := F) d L) : RBuf (F := F) d L := fun j =>
  m (tLoc d) (at2 (rowNo (fo (at1 (n := 8) (j 0)))) (j 1))

/-- The row scratch with its columns `o … o + 127` taken from `g`. -/
def patch (o : ℕ) (g f : RBuf (F := F) d L) : RBuf (F := F) d L := fun j =>
  if o ≤ (j 1).val ∧ (j 1).val < o + 128 then g j else f j

/-- Reading the table through the columns `o …` at row `r`, column `k` is the table at row `r`, column `o + k`. -/
theorem tCols_emb (o : ℕ) (h : TIn o) (x : S1000x128.Idx) :
    (((tCols o h).view.emb x : S1000x768.Idx) 0).val = (x 0).val ∧ (((tCols o h).view.emb x : S1000x768.Idx) 1).val = o + (x 1).val := by
  constructor
  · show 0 + 1 * (0 + 1 * (x 0).val) = _
    omega
  · show o + 1 * (0 + 1 * (x 1).val) = _
    omega

theorem rCols_emb (o : ℕ) (h : RIn o) (x : S8x128.Idx) :
    (((rCols o h).view.emb x : S8x768.Idx) 0).val = (x 0).val ∧ (((rCols o h).view.emb x : S8x768.Idx) 1).val = o + (x 1).val := by
  constructor
  · show 0 + 1 * (x 0).val = _
    omega
  · show o + 1 * (x 1).val = _
    omega

/-- Two elements of a rank-two buffer at the same row and column are the same. -/
theorem idx2_ext {n k : ℕ} {i j : (⟨2, ![n, k]⟩ : Shape).Idx} (h0 : (i 0).val = (j 0).val) (h1 : (i 1).val = (j 1).val) : i = j := by
  funext a
  match a with
  | 0 => exact Fin.ext h0
  | 1 => exact Fin.ext h1

/-- The words of the index scratch name rows of the table. -/
abbrev InRows (fo : SBuf (F := F) d L) : Prop := ∀ x : S8.Idx, (fo x).toNat < 1000

theorem inRows_read {fo : SBuf (F := F) d L} (hin : InRows d L fo) :
    ∀ x, ((sV).view.read (Elt F) fo x).toNat < S1000x128.size gathers_S1000x128_S8x128.axis := by
  intro x
  simp only [Memref.view_whole, View.read_whole]
  exact hin x

/-- A list's entry of number `k` in row-major order is its element at position `k`. -/
theorem entry_eq (k : Fin S8.numel) : S8.rowMajor.symm k = at1 (n := 8) k := by
  rw [Equiv.symm_apply_eq]
  exact Fin.ext (Shape.rowMajor_val_one (d := ![8]) (at1 (n := 8) k)).symm

/-- What the gather writes: the destination's columns hold the named rows' columns, the rest is as it was. -/
theorem gather_write (o : ℕ) (ht : TIn o) (hr : RIn o) (fo : SBuf (F := F) d L) (f : RBuf (F := F) d L) (hin : InRows d L fo) :
    (rCols o hr).view.write (Elt F) f
        (SparseCore.gatherPayload gathers_S1000x128_S8x128 ((tCols o ht).view.read (Elt F) (m (tLoc d)))
          (SparseCore.rows ((sV).view.read (Elt F) fo) rfl (inRows_read d L hin))) Finset.univ
      = patch d L o (rowsOf m d L fo) f := by
  funext j
  unfold patch
  by_cases hj : o ≤ (j 1).val ∧ (j 1).val < o + 128
  · rw [if_pos hj]
    let x : S8x128.Idx := at2 (n := 8) (k := 128) (j 0) ⟨(j 1).val - o, by omega⟩
    have hx : (rCols o hr).view.emb x = j :=
      idx2_ext (n := 8) (k := 768) (rCols_emb o hr x).1 ((rCols_emb o hr x).2.trans (show o + ((j 1).val - o) = (j 1).val by omega))
    have hw := View.write_emb_of_mem (Val := Elt F) (v := (rCols o hr).view) f
      (SparseCore.gatherPayload gathers_S1000x128_S8x128 ((tCols o ht).view.read (Elt F) (m (tLoc d)))
        (SparseCore.rows ((sV).view.read (Elt F) fo) rfl (inRows_read d L hin))) (Finset.mem_univ x)
    rw [hx] at hw
    rw [hw, cast_eq]
    unfold SparseCore.gatherPayload rowsOf
    rw [View.read_apply, cast_eq]
    congr 1
    refine idx2_ext (n := 1000) (k := 768) ?_ ?_
    · rw [(tCols_emb o ht _).1]
      have h0 := Shape.Gathers.idx_axis gathers_S1000x128_S8x128 (SparseCore.rows ((sV).view.read (Elt F) fo) rfl (inRows_read d L hin)) x
      refine (congrArg Fin.val h0).trans ?_
      refine (congrArg (fun i => ((sV).view.read (Elt F) fo i).toNat) (entry_eq _)).trans ?_
      simp only [Memref.view_whole, View.read_whole]
      exact (rowNo_val (hin _)).symm
    · rw [(tCols_emb o ht _).2]
      have h1 := Shape.Gathers.idx_of_ne gathers_S1000x128_S8x128 (SparseCore.rows ((sV).view.read (Elt F) fo) rfl (inRows_read d L hin)) x 1 (by decide)
      rw [h1]
      show o + ((j 1).val - o) = (j 1).val
      omega
  · rw [if_neg hj]
    refine View.write_of_not_mem _ _ _ fun hm => hj ?_
    obtain ⟨x, -, rfl⟩ := Finset.mem_map.mp hm
    have h1 := (rCols_emb o hr x).2
    have h2 : (x 1).val < 128 := (x 1).isLt
    omega

variable [FloatOps F]

/-- One gather and its wait, from the row scratch at `f`: the scratch's columns `o … o + 127` come to hold the named
    rows' columns; the table's share, the index scratch and the semaphore come back. -/
theorem gather_step (o : ℕ) (ht : TIn o) (hr : RIn o) (q : PosShare TreeShare) (fo : SBuf (F := F) d L) (f : RBuf (F := F) d L)
    (hin : InRows d L fo) (O : CellTallies nD τ sig (HIx 1)) (W : Waits sig (HIx 1))
    {k : PUnit → Prog (TpuEff nD τ sig (Elt F) Λ₀ (thr d L).2) PUnit} {Q : PUnit → sProp 𝕄} :
    iprop(Transfers.MayWaits (thr d L) (default : HIx 1) O ∗ (tLoc d ↦{q} m (tLoc d))
        ∗ ((thr d L).loc cc0_scratch0 ↦{fullShare} fo) ∗ ((thr d L).loc cc0_scratch1 ↦{fullShare} f)
        ∗ semVal (thr d L, SemLoc.dma cc0_scratch2.sem) 0 ∗ owes (thr d L) O W)
      ⊢ iprop((iprop((tLoc d ↦{q} m (tLoc d))
            ∗ ((thr d L).loc cc0_scratch0 ↦{fullShare} fo) ∗ ((thr d L).loc cc0_scratch1 ↦{fullShare} patch d L o (rowsOf m d L fo) f)
            ∗ semVal (thr d L, SemLoc.dma cc0_scratch2.sem) 0
            ∗ owes (thr d L) O (insert (SemLoc.dma cc0_scratch2.sem, (default : HIx 1)) W))
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather rfl (tCols o ht) (rCols o hr) gathers_S1000x128_S8x128 sV rfl cc0_scratch2.sem
                (View.wordExact_bits rfl) rfl (Or.inl rfl)
              >>= fun _ => SparseCore.waitIndirectGather cc0_scratch2.sem (tCols o ht) (rCols o hr) (View.wordExact_bits rfl) (View.wordExact_bits rfl)
              >>= k) Q) := by
  have hN : ∑ j, ((rCols o hr).slice (S8x128.rowRect gathers_S1000x128_S8x128.axis' j) (S8x128.stride_rowRect gathers_S1000x128_S8x128.axis' j)).view.dmaCredit
      = (rCols o hr).view.dmaCredit := by
    show ∑ j : Fin 8, sig.dmaCredit .scVector _ (rV).view.buf (S8x128.rowShape 0) .f32 = sig.dmaCredit .scVector _ (rV).view.buf S8x128 .f32
    decide
  have hss : (sV).view.set = Finset.univ := View.set_whole _
  iintro ⟨#Hmw, Ht, Hs, Hr, Hsem, HO⟩ Hk
  ihave Ht' := (pointsTo_split_subset (q := q) (f := m (tLoc d)) (S := Finset.univ) (Finset.subset_univ (tCols o ht).view.set)).1 $$ Ht
  icases Ht' with ⟨Ht, Htr⟩
  ihave Hr' := (pointsTo_split_subset (q := fullShare) (f := f) (S := Finset.univ) (Finset.subset_univ (rCols o hr).view.set)).1 $$ Hr
  icases Hr' with ⟨Hr, Hrr⟩
  iapply (SparseCore.wp_indirectGatherLocal countersEmb 𝒱₀ (thr d L) none (hg := gathers_S1000x128_S8x128) (default : HIx 1)
      (rCols o hr).view.dmaCredit hN (by decide) (inRows_read d L hin)) $$ [Ht Hr Hs Hsem]
  · isplitl [Ht]; · iexact Ht
    isplitl [Hr]; · iexact Hr
    isplitl [Hs]; · rw [hss]; iexact Hs
    iexact Hsem
  iintro Hfl
  iapply (Transfers.wp_waitLocalO countersEmb 𝒱₀ (thr d L) none (default : HIx 1) (rfl : (rCols o hr).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hs⟩, Hsem, HO⟩
  iapply Hk
  isplitl [Ht Htr]
  · iapply (pointsTo_split_subset (q := q) (f := m (tLoc d)) (S := Finset.univ) (Finset.subset_univ (tCols o ht).view.set)).2
    isplitl [Ht] <;> iassumption
  isplitl [Hs]; · rw [hss]; iexact Hs
  isplitl [Hr Hrr]
  · have hoff : ∀ i ∈ Finset.univ \ (rCols o hr).view.set, f i = patch d L o (rowsOf m d L fo) f i := fun i hi => by
      rw [← gather_write m d L o ht hr fo f hin]
      exact (View.write_of_not_mem _ _ _ fun h => (Finset.mem_sdiff.mp hi).2 h).symm
    rw [gather_write m d L o ht hr fo f hin]
    ihave Hrr' := (Entails.of_eq (pointsTo_congr hoff)) $$ Hrr
    iapply (pointsTo_split_subset (q := fullShare) (f := patch d L o (rowsOf m d L fo) f) (S := Finset.univ) (Finset.subset_univ (rCols o hr).view.set)).2
    isplitl [Hr] <;> iassumption
  isplitl [Hsem]; · iexact Hsem
  iexact HO

end Cert.Proof.Rows

end
-- ==== Proof.Tile.lean ====
/-
  A task's run: a tile with work fetches its eight indices, gathers the eight rows they name in six pieces of 128
  columns, and writes them out; a tile without work returns at once. Either way the task's rows of the result hold the
  gathered rows.
-/
module

public import proofs.«01_k».proof.Proof.Gather

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

theorem bound_one : grid0.bound 1 = 16 := rfl
/-- The task's number. -/
abbrev jL (L : grid0.Coords) : Fin 16 := Fin.cast bound_one (L 1)

/-- A tile has work exactly if it is one of the first four. -/
theorem cond_iff : ∀ L : grid0.Coords, k0_cond1 L = 1#1 ↔ (L 1).val < 4 := by decide +kernel

/-- The slices of the indices and of the result a tile with work addresses. -/
abbrev yK (hc : k0_cond1 L = 1#1) : Memref sig .scVector .hbm S8 .i32 :=
  (yV).slice (Rect.unit (s := S32) (k0_off1 L) S8.size (k0_off1_inb L hc)) (fun _ => rfl)
abbrev eK (hc : k0_cond1 L = 1#1) : Memref sig .scVector .hbm S8x768 .f32 :=
  (eV).slice (Rect.unit (s := S32x768) (k0_off2 L) S8x768.size (k0_off2_inb L hc)) (fun _ => rfl)

theorem yK_emb (hc : k0_cond1 L = 1#1) (x : S8.Idx) : (((yK L hc).view.emb x : S32.Idx) 0).val = 8 * (L 1).val + (x 0).val := by
  have h : (((yK L hc).view.emb x : S32.Idx) 0).val = k0_off1 L 0 + 1 * (x 0).val := rfl
  rw [h, k0_off1_eq]
  show 8 * (L 1).val + 1 * (x 0).val = _
  omega

theorem eK_emb (hc : k0_cond1 L = 1#1) (x : S8x768.Idx) :
    (((eK L hc).view.emb x : S32x768.Idx) 0).val = 8 * (L 1).val + (x 0).val ∧ (((eK L hc).view.emb x : S32x768.Idx) 1).val = (x 1).val := by
  have h : ∀ a, (((eK L hc).view.emb x : S32x768.Idx) a).val = k0_off2 L a + 1 * (x a).val := fun _ => rfl
  rw [h, h, k0_off2_eq]
  constructor
  · show 8 * (L 1).val + 1 * (x 0).val = _
    omega
  · show 0 + 1 * (x 1).val = _
    omega

/-- Those slices are the task's part of each. -/
theorem set_yK (hc : k0_cond1 L = 1#1) : (yK L hc).view.set = ySet (jL L) := by
  ext j
  simp only [View.set, Finset.mem_map, Finset.mem_univ, true_and, Finset.mem_filter]
  constructor
  · rintro ⟨x, rfl⟩
    have hx : (x 0).val < 8 := (x 0).isLt
    refine (congrArg (· / 8) (yK_emb L hc x)).trans ?_
    show (8 * (L 1).val + (x 0).val) / 8 = (L 1).val
    omega
  · intro hj
    have hj' : (j 0).val / 8 = (L 1).val := hj
    refine ⟨at1 (n := 8) ⟨(j 0).val - 8 * (L 1).val, by omega⟩, ?_⟩
    funext a
    match a with
    | 0 =>
      refine Fin.ext ((yK_emb L hc _).trans ?_)
      show 8 * (L 1).val + ((j 0).val - 8 * (L 1).val) = (j 0).val
      omega

theorem set_eK (hc : k0_cond1 L = 1#1) : (eK L hc).view.set = eSet (jL L) := by
  ext j
  simp only [View.set, Finset.mem_map, Finset.mem_univ, true_and, Finset.mem_filter]
  constructor
  · rintro ⟨x, rfl⟩
    have hx : (x 0).val < 8 := (x 0).isLt
    refine (congrArg (· / 8) (eK_emb L hc x).1).trans ?_
    show (8 * (L 1).val + (x 0).val) / 8 = (L 1).val
    omega
  · intro hj
    have hj' : (j 0).val / 8 = (L 1).val := hj
    refine ⟨at2 (n := 8) (k := 768) ⟨(j 0).val - 8 * (L 1).val, by omega⟩ (j 1), ?_⟩
    refine idx2_ext (n := 32) (k := 768) ((eK_emb L hc _).1.trans ?_) (eK_emb L hc _).2
    show 8 * (L 1).val + ((j 0).val - 8 * (L 1).val) = (j 0).val
    omega

/-- The task's eight indices. -/
def idxs (hc : k0_cond1 L = 1#1) : SBuf (F := F) d L := (yK L hc).view.read (Elt F) (m (yLoc d))

theorem idxs_apply (hc : k0_cond1 L = 1#1) (x : S8.Idx) : idxs m d L hc x = m (yLoc d) ((yK L hc).view.emb x) :=
  (View.read_apply _ _).trans (cast_eq _ _)

theorem idxs_in (hpre : PreOK m) (hc : k0_cond1 L = 1#1) : InRows d L (idxs m d L hc) := fun x => by
  rw [idxs_apply]; exact hpre d _

/-- The row scratch after the six gathers, whatever it held before: the eight rows whole. -/
theorem patches (g f : RBuf (F := F) d L) :
    patch d L 640 g (patch d L 512 g (patch d L 384 g (patch d L 256 g (patch d L 128 g (patch d L 0 g f))))) = g := by
  funext j
  have hj : (j 1).val < 768 := (j 1).isLt
  unfold patch
  repeat' split
  all_goals first | rfl | (exfalso; omega)

/-- The rows written out are the gathered rows, on the task's part of the result. -/
theorem write_gath (hc : k0_cond1 L = 1#1) (f : Buf (Elt F) (eLoc d)) (w : S8x768.Idx → Elt F .f32)
    (hw : w = (rV).view.read (Elt F) (rowsOf m d L (idxs m d L hc))) :
    ∀ j ∈ eSet (jL L), (eK L hc).view.writes (Elt F) f [⟨Rect.whole S8x768, w⟩] j = gath m d j := by
  subst hw
  rw [← set_eK L hc]
  intro j hj
  obtain ⟨x, -, rfl⟩ := Finset.mem_map.mp hj
  rw [View.writes_singleton]
  have he : ((eK L hc).view.slice (Rect.whole S8x768)).emb x = (eK L hc).view.emb x := congrArg (eK L hc).view.emb (Rect.emb_whole_apply _ _)
  rw [← he, View.write_emb_of_mem _ _ (Finset.mem_univ x), cast_eq, he]
  simp only [Memref.view_whole, View.read_whole]
  unfold rowsOf gath
  rw [idxs_apply]
  have hy : (yK L hc).view.emb (at1 (n := 8) (x 0)) = at1 (n := 32) (((eK L hc).view.emb x : S32x768.Idx) 0) := by
    funext a
    match a with
    | 0 => exact Fin.ext ((yK_emb L hc _).trans (eK_emb L hc x).1.symm)
  rw [hy]
  congr 1
  exact idx2_ext (n := 1000) (k := 768) rfl (eK_emb L hc x).2.symm

/-! ## The task's own storage -/

abbrev gCell (d : Dev nD) (c : Fin τ.nSC) (i : Fin τ.nSub) : GSem nD τ sig := (V d c i, .dma cc0_scratch2.sem)
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)

/-- The subcore's semaphores at zero: the three the task uses, and the rest. -/
theorem sems_split :
    (ownSems0 (thr d L) : sProp 𝕄)
      = iprop(semVal (gCell d (cV L) (jV L)) 0 ∗ semVal (aCell d (cV L) (jV L)) 0 ∗ semVal (bCell d (cV L) (jV L)) 0
          ∗ bigSep ((((ownCells (thr d L)).erase (gCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch2.sem : SemLoc sig).isScoped .scVector = true; decide⟩),
    SparseCore.bigSep_erase' (Finset.mem_erase.mpr ⟨by simp [gCell, aCell]; decide, (mem_ownCells (g := aCell d (cV L) (jV L))).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d (cV L) (jV L))).mpr ⟨rfl, by show (SemLoc.dma cc0_scoped1.sem : SemLoc sig).isScoped .scVector = true; decide⟩⟩⟩)]

/-- The subcore's buffers at some contents: its two scratch buffers, and the rest. -/
theorem bufs_split :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- A task, whichever tile runs it: from its indices, its share of the table and its rows of the result, it gives them
    back with its rows of the result gathered. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (yPart m d (jL L) ∗ tPart m d (jL L) ∗ ePart d (jL L) (m (eLoc d)))
        ∗ scopedBufs (thr d L) ∗ scopedSems0 (thr d L) ∗ owes (thr d L) O W)
      ⊢ wp frame (wpE (defs₀ (F := F)) 𝒱₀ (thr d L) none) Set.univ
          (cc0_gather L tV (Memref.isWhole_whole _) yV (Memref.isWhole_whole _) eV (Memref.isWhole_whole _)
            sV (Memref.isWhole_whole _) rV (Memref.isWhole_whole _) cc0_scratch2 cc0_scoped0 cc0_scoped1)
          fun _ => iprop((yPart m d (jL L) ∗ tPart m d (jL L) ∗ ePart d (jL L) (gath m d))
            ∗ scopedBufs (thr d L) ∗ scopedSems0 (thr d L)
            ∗ ∃ W', ⌜∀ p ∈ W', p ∈ W ∨ p.2 = none⌝ ∗ owes (thr d L) O W') := by
  simp only [cc0_gather_eq_skeleton]; unfold cc0_gather_skel
  by_cases hc : k0_cond1 L = 1#1
  · simp only [dif_pos hc, k0_part1_eq_skeleton, k0_part2_eq_skeleton, k0_part1_skel, k0_part2_skel, bind_assoc, pure_bind]
    rw [(K (F := F)).scopedBufs_V hF d (cV L) (jV L), SparseCore.Cfg.scopedSems0_V (Val := Elt F) d (cV L) (jV L), sems_split, bufs_split]
    iintro ⟨#Hlv, -, ⟨Hy, Ht, He⟩, ⟨⟨%fs, Hs⟩, ⟨%fr, Hr⟩, Hbufs⟩, ⟨HsG, HsA, HsB, Hsems⟩, HO⟩
    ihave Hmw := (show levAts (K (F := F)).L (K (F := F)).lev ⊢ Transfers.MayWaits (thr d L) (default : HIx 1) O from
      (K (F := F)).mayWaits_none (thr := thr d L) hO) $$ Hlv
    icases Hmw with #Hmw
    ihave Hy' := (Entails.of_eq (show (yPart m d (jL L) : sProp 𝕄)
      = ((yK L hc).view.loc (thr d L) ↦[(yK L hc).view.set]{fullShare} m (yLoc d)) by rw [set_yK])) $$ Hy
    ihave He' := (Entails.of_eq (show (ePart d (jL L) (m (eLoc d)) : sProp 𝕄)
      = ((eK L hc).view.loc (thr d L) ↦[(eK L hc).view.set]{fullShare} m (eLoc d)) by rw [set_eK])) $$ He
    ihave Hs' := (show ((thr d L).loc cc0_scratch0 ↦{fullShare} fs : sProp 𝕄) ⊢ (sV).view.loc (thr d L) ↦{fullShare} fs from .rfl) $$ Hs
    sl_exec
    -- the fetch landed the task's indices in the index scratch
    ihave Hs := (Entails.of_eq (show ((sV).view.loc (thr d L) ↦{fullShare} View.write (Elt F) (sV).view fs (tile_body.sl.dma0 m d L hc) Finset.univ : sProp 𝕄)
      = ((thr d L).loc cc0_scratch0 ↦{fullShare} idxs m d L hc) by rw [View.write_whole_univ]; rfl)) $$ Hs'
    have hin := idxs_in m d L hpre hc
    -- the six gathers
    iterate 6
      iapply (gather_step m d L _ _ _ (tq (jL L)) _ _ hin O _) $$ [Ht Hs Hr HsG HO]
      · isplitr; · iexact Hmw
        isplitl [Ht]; · iexact Ht
        isplitl [Hs]; · iexact Hs
        isplitl [Hr]; · iexact Hr
        isplitl [HsG]; · iexact HsG
        iexact HO
      iintro ⟨Ht, Hs, Hr, HsG, HO⟩
    rw [patches]
    ihave Hr' := (show ((thr d L).loc cc0_scratch1 ↦{fullShare} rowsOf m d L (idxs m d L hc) : sProp 𝕄)
      ⊢ (rV).view.loc (thr d L) ↦{fullShare} rowsOf m d L (idxs m d L hc) from .rfl) $$ Hr
    sl_exec
    sl_step
    ihave He := (Entails.of_eq ((pointsTo_congr (by rw [set_eK]; exact write_gath m d L hc (m (eLoc d)) _ rfl)).trans
      (show ((eK L hc).view.loc (thr d L) ↦[(eK L hc).view.set]{fullShare} gath m d : sProp 𝕄) = ePart d (jL L) (gath m d) by rw [set_eK]))) $$ He'
    isplitl [Hy' Ht He]
    · isplitl [Hy']; · rw [show (yPart m d (jL L) : sProp 𝕄)
          = ((yK L hc).view.loc (thr d L) ↦[(yK L hc).view.set]{fullShare} m (yLoc d)) by rw [set_yK]]; iexact Hy'
      isplitl [Ht]; · iexact Ht
      iexact He
    isplitl [Hs Hr' Hbufs]
    · isplitl [Hs]; · iexists _; iexact Hs
      isplitl [Hr']; · iexists _; iexact Hr'
      iexact Hbufs
    isplitl [HsG HsA HsB Hsems]
    · isplitl [HsG]; · iexact HsG
      isplitl [HsA]; · iexact HsA
      isplitl [HsB]; · iexact HsB
      iexact Hsems
    iexists _; isplitr
    swap; · iexact HO
    ipureintro; intro p hp
    simp only [Finset.mem_insert] at hp
    rcases hp with rfl | rfl | rfl | rfl | rfl | rfl | rfl | rfl | hp
    all_goals first | exact Or.inr rfl | exact Or.inl hp
  · simp only [dif_neg hc, pure_bind]
    have hempty : eSet (jL L) = ∅ := by
      refine Finset.filter_eq_empty_iff.mpr fun j _ hj => hc ((cond_iff L).mpr ?_)
      have h1 : (j 0).val / 8 = (L 1).val := hj
      have h2 : (j 0).val < 32 := (j 0).isLt
      omega
    have hsame : (ePart d (jL L) (m (eLoc d)) : sProp 𝕄) = ePart d (jL L) (gath m d) :=
      pointsTo_congr fun j hj => absurd (hempty ▸ hj) (Finset.notMem_empty j)
    rw [hsame, wp_pure]
    iintro ⟨-, -, Hp, Hb, Hs, HO⟩
    imodintro
    isplitl [Hp]; · iexact Hp
    isplitl [Hb]; · iexact Hb
    isplitl [Hs]; · iexact Hs
    iexists W; isplitr; · ipureintro; exact fun _ h => Or.inl h
    iexact HO

/-! ## The launch's obligation for the call -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What the program runs on a tile for the call. -/
theorem defs_tile (c : Fin τ.nSC) (s : Fin τ.nSub) :
    defs₀ (F := F) (.scVector c s) 0 ()
      = SparseCore.onTile hcore0 hsub0 (fun c s => cc0_gather (coordsV c s) tV (Memref.isWhole_whole _) yV (Memref.isWhole_whole _)
          eV (Memref.isWhole_whole _) sV (Memref.isWhole_whole _) rV (Memref.isWhole_whole _) cc0_scratch2 cc0_scoped0 cc0_scoped1) ⟨⟩ c s := rfl

/-- Each task turns what it is handed into what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  refine (tile_body m d (coordsV ⟨_, hci.1⟩ ⟨_, hci.2⟩) hF hpre O W hO).trans (wp_mono frame _ _ fun _ => ?_)
  refine BI.Laws.sep_mono_right (BI.Laws.sep_mono_right (BI.Laws.sep_mono_right ?_))
  iintro ⟨%W', %hW', HO⟩
  iexists W'; isplitr
  · ipureintro; exact fun p hp => (hW' p hp).imp_right Or.inl
  · iexact HO

end Cert.Proof.Rows

end
-- ==== Proof.AffineBody.lean ====
/-
  The TensorCore kernel's body, run once at any staging buffers.

  A block of the image is 8192 rows of 384: eight images of 1024 rows each. A block of the gathered rows is eight rows of
  768: the first 384 elements of a row scale an image's rows and the last 384 are added to them. The body treats the eight
  images one after another, each with one part-store into the result's staging buffer; the eight stores tile it, so
  what it holds afterwards is one function of the two blocks read (`affine`).
-/
module

public import proofs.«01_k».proof.Proof.Base
public import Idealize.ShloMosaic.Lib.Writes
public import Idealize.ShloMosaic.Lib.Pipeline.Value

@[expose] public section

noncomputable section

namespace Cert.Proof.Rows

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Row `a` of the scale-and-shift block, column `b` of its first half. -/
abbrev scaleAt (g : Vec F S8x768 .f32) (a : Fin 8) (b : Fin 384) : F .f32 := g (at2 a (⟨b.val, by omega⟩ : Fin 768))
/-- Row `a` of the scale-and-shift block, column `b` of its second half. -/
abbrev shiftAt (g : Vec F S8x768 .f32) (a : Fin 8) (b : Fin 384) : F .f32 := g (at2 a (⟨384 + b.val, by omega⟩ : Fin 768))
/-- The image a row of a block belongs to. -/
abbrev imageOf (j : S8192x384.Idx) : Fin 8 := ⟨(j 0).val / 1024, by have : (j 0).val < 8192 := (j 0).isLt; omega⟩

/-- What the body makes of a block of scale and shift rows and a block of the image. -/
def affine (g : Vec F S8x768 .f32) (x : Vec F S8192x384 .f32) : FVec F S8192x384 .f32 :=
  addf (mulf (φ := .f32) x fun j => scaleAt g (imageOf j) (j 1)) fun j => shiftAt g (imageOf j) (j 1)

/-- One row of 384, cast to a list and back and repeated over 1024 rows, is that row at every row. -/
theorem rows_of_row (a : Vec F S1x384 .f32) :
    broadcastTo S1024x384 (shapeCast S1x384 (shapeCast S384 a shapeCasts_S1x384_S384) shapeCasts_S384_S1x384) broadcasts_S1x384_S1024x384
      = fun j => a (at2 0 (j 1)) := by
  rw [shapeCast_shapeCast]
  funext j
  refine broadcastTo_apply a _ j _ fun i => ?_
  fin_cases i <;> rfl

/-- One image's store: its rows, each scaled by one row and shifted by another. -/
theorem pay_eq (a b : Vec F S1x384 .f32) (x : Vec F S1024x384 .f32) :
    k1_pay2 a b x = addf (mulf (φ := .f32) x fun j => a (at2 0 (j 1))) fun j => b (at2 0 (j 1)) := by
  unfold k1_pay2
  have e (r : Vec F S1x384 .f32) := rows_of_row r
  simp only [e, shapeCast_self]

/-- Image `k` of a block: what is stored for it agrees with `affine` of the two blocks, wherever the two buffers lie. -/
theorem image_ok (v0 : View sig .tc .vmem S8x768 .f32) (f0 : v0.ty.Contents (Elt F)) (v1 : View sig .tc .vmem S8192x384 .f32)
    (f1 : v1.ty.Contents (Elt F)) (k n : ℕ) (hk : n = 1024 * k)
    (i0 : ∀ a, (![k, 0] : Fin 2 → ℕ) a + S1x384.size a ≤ S8x768.size a) (i1 : ∀ a, (![k, 384] : Fin 2 → ℕ) a + S1x384.size a ≤ S8x768.size a)
    (ix : ∀ a, (![n, 0] : Fin 2 → ℕ) a + S1024x384.size a ≤ S8192x384.size a) (x : S1024x384.Idx) :
    k1_pay2 (v0.readAt (Elt F) (Rect.unit (s := S8x768) ![k, 0] S1x384.size i0).toLoadRect f0)
        (v0.readAt (Elt F) (Rect.unit (s := S8x768) ![k, 384] S1x384.size i1).toLoadRect f0)
        (v1.readAt (Elt F) (Rect.unit (s := S8192x384) ![n, 0] S1024x384.size ix).toLoadRect f1) x
      = affine (v0.read (Elt F) f0) (v1.read (Elt F) f1) ((Rect.unit (s := S8192x384) ![n, 0] S1024x384.size ix).emb x) := by
  rw [pay_eq]
  have h0 : (x 0).val < 1024 := (x 0).isLt
  have hi : (n + 1 * (x 0).val) / 1024 = k := by omega
  have e0 : (Rect.unit (s := S8x768) ![k, 0] S1x384.size i0).emb (at2 0 (x 1))
      = at2 (imageOf ((Rect.unit (s := S8192x384) ![n, 0] S1024x384.size ix).emb x)) (⟨0 + 1 * (x 1).val, by have : (x 1).val < 384 := (x 1).isLt; omega⟩ : Fin 768) :=
    Shape.idx_ext₂ (show k + 1 * 0 = (n + 1 * (x 0).val) / 1024 by omega) rfl
  have e1 : (Rect.unit (s := S8x768) ![k, 384] S1x384.size i1).emb (at2 0 (x 1))
      = at2 (imageOf ((Rect.unit (s := S8192x384) ![n, 0] S1024x384.size ix).emb x)) (⟨384 + (0 + 1 * (x 1).val), by have : (x 1).val < 384 := (x 1).isLt; omega⟩ : Fin 768) :=
    Shape.idx_ext₂ (show k + 1 * 0 = (n + 1 * (x 0).val) / 1024 by omega) (show 384 + 1 * (x 1).val = 384 + (0 + 1 * (x 1).val) by omega)
  exact congrArg₂ (fun p q => FloatOps.addf (φ := .f32) (FloatOps.mulf (φ := .f32) _ p) q) (congrArg (v0.read (Elt F) f0) e0)
    (congrArg (v0.read (Elt F) f0) e1)

/-- The body, from its three staging buffers held whole: it ends with the first two as they were and the third reading
    `affine` of what the first two read. -/
theorem affine_run (c : Dev nD) (i : grid1.Coords) (M0 : Memref sig .tc .vmem S8x768 .f32) (h0 : M0.IsWhole)
    (M1 : Memref sig .tc .vmem S8192x384 .f32) (h1 : M1.IsWhole) (M2 : Memref sig .tc .vmem S8192x384 .f32) (h2 : M2.IsWhole)
    (f0 : Buf (Elt F) (M0.view.loc (c : Thread nD τ))) (f1 : Buf (Elt F) (M1.view.loc (c : Thread nD τ)))
    (f2 : Buf (Elt F) (M2.view.loc (c : Thread nD τ))) (E : Set ℕ) (Q : PUnit → sProp 𝕄) :
    iprop((M0.view.loc (c : Thread nD τ) ↦{fullShare} f0) ∗ (M1.view.loc (c : Thread nD τ) ↦{fullShare} f1)
        ∗ (M2.view.loc (c : Thread nD τ) ↦{fullShare} f2)
        ∗ (∀ w, iprop(⌜M2.view.read (Elt F) w = affine (M0.view.read (Elt F) f0) (M1.view.read (Elt F) f1)⌝
            ∗ (M0.view.loc (c : Thread nD τ) ↦{fullShare} f0) ∗ (M1.view.loc (c : Thread nD τ) ↦{fullShare} f1)
            ∗ (M2.view.loc (c : Thread nD τ) ↦{fullShare} w)) -∗ Q ⟨⟩))
      ⊢ wp frame (wpE (defs₀ (F := F)) 𝒱₀ (c : Thread nD τ) none) E (cc1__affine_body i M0 h0 M1 h1 M2 h2) Q := by
  rw [cc1__affine_body_eq_skeleton]
  unfold cc1__affine_body_skel
  rw [k1_part1_eq_skeleton, k1_part2_eq_skeleton]
  iintro ⟨H0, H1, H2, Hk⟩
  sl_exec!
  sl_step
  iapply Hk
  isplitr
  rotate_left
  · isplitl [H0]; · iexact H0
    isplitl [H1]; · iexact H1
    iexact H2
  ipureintro
  funext y
  refine View.read_writes_apply_of_pieces _ _ _ _ ?_ y (View.cover_of_tiled (s := S8192x384) _ S1024x384.size rfl y)
  unfold affine_run.sl.H2_8
  simp only [List.forall_mem_cons]
  exact ⟨image_ok _ f0 _ f1 7 7168 rfl _ _ _, image_ok _ f0 _ f1 6 6144 rfl _ _ _, image_ok _ f0 _ f1 5 5120 rfl _ _ _,
    image_ok _ f0 _ f1 4 4096 rfl _ _ _, image_ok _ f0 _ f1 3 3072 rfl _ _ _, image_ok _ f0 _ f1 2 2048 rfl _ _ _,
    image_ok _ f0 _ f1 1 1024 rfl _ _ _, image_ok _ f0 _ f1 0 0 rfl _ _ _, fun _ h => absurd h List.not_mem_nil⟩

end Cert.Proof.Rows

end
-- ==== Proof.AffineRegion.lean ====
/-
  The TensorCore kernel's launch, from any contents of the arrays.

  The grid has four points. Point `t` is given rows `8 t … 8 t + 7` of the gathered rows and rows `8192 t … 8192 t + 8191`
  of the image, and writes the same rows of the result. What is stored at a point is `affine` of its two blocks, which is
  the point's block of one function of the two arrays (`affineAll`); the four blocks tile the result, so the result is that
  function.
-/
module

public import proofs.«01_k».proof.Proof.AffineBody
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Rows

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body at a point -/

/-- A whole memref owned at contents `X` is its buffer held whole at something that reads `X`. -/
theorem owns_of_isWhole (c : Dev nD) {sp : Space} {s : Shape} {e : EltTy} (M : Memref sig .tc sp s e) (h : M.IsWhole) (X : s.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

/-- The body, its staging buffers owned: the third is left at `affine` of the first two. -/
theorem affine_owns (c : Dev nD) (i : grid1.Coords) (M0 : Memref sig .tc .vmem S8x768 .f32) (h0 : M0.IsWhole)
    (M1 : Memref sig .tc .vmem S8192x384 .f32) (h1 : M1.IsWhole) (M2 : Memref sig .tc .vmem S8192x384 .f32) (h2 : M2.IsWhole)
    (g : Vec F S8x768 .f32) (x x' : Vec F S8192x384 .f32) (E : Set ℕ) (Q : PUnit → sProp 𝕄) :
    iprop(owns (c : Thread nD τ) M0 fullShare g ∗ owns (c : Thread nD τ) M1 fullShare x ∗ owns (c : Thread nD τ) M2 fullShare x'
        ∗ (iprop(owns (c : Thread nD τ) M0 fullShare g ∗ owns (c : Thread nD τ) M1 fullShare x
            ∗ owns (c : Thread nD τ) M2 fullShare (affine g x)) -∗ Q ⟨⟩))
      ⊢ wp frame (wpE (defs₀ (F := F)) 𝒱₀ (c : Thread nD τ) none) E (cc1__affine_body i M0 h0 M1 h1 M2 h2) Q := by
  simp only [owns_of_isWhole _ _ h0, owns_of_isWhole _ _ h1, owns_of_isWhole _ _ h2]
  iintro ⟨⟨%f0, %e0, H0⟩, ⟨%f1, %e1, H1⟩, ⟨%f2, -, H2⟩, Hk⟩
  subst e0; subst e1
  iapply (affine_run c i M0 h0 M1 h1 M2 h2 f0 f1 f2 E Q)
  isplitl [H0]; · iexact H0
  isplitl [H1]; · iexact H1
  isplitl [H2]; · iexact H2
  iintro %w ⟨%hw, H0, H1, H2⟩
  iapply Hk
  isplitl [H0]; · iexists f0; isplitr; · ipureintro; rfl
                  iexact H0
  isplitl [H1]; · iexists f1; isplitr; · ipureintro; rfl
                  iexact H1
  iexists w; isplitr; · ipureintro; exact hw
  iexact H2

/-! ## The proof data -/

variable (W : (c : Dev nD) → (b : Ref sig .tc) → Buf (Elt F) ((c : Thread nD τ).loc b)) (lvl : ℕ)

/-- The block of gathered rows at point `t`. -/
abbrev rowsAt (c : Dev nD) (t : Fin cfg1.N) : Vec F S8x768 .f32 := ((cfg1.win 0).blk t).view.read (Elt F) (W c main_v0)
/-- The block of the image at point `t`. -/
abbrev imgAt (c : Dev nD) (t : Fin cfg1.N) : Vec F S8192x384 .f32 := ((cfg1.win 1).blk t).view.read (Elt F) (W c main_v2)

/-- The launch from contents `W`: the two operands' buffers stay as fetched and the result's is left at `affine` of them;
    the core owes nothing, and has waited so far at no level above `lvl`. -/
def dat (c : Dev nD) : Dat τ (Elt F) (HIx 1) ℕ UU ℕ cfg1 c where
  A w := W c (Pipeline.arrRef spec1 w)
  after w t := match w with
    | ⟨0, _⟩ => rowsAt W c t
    | ⟨1, _⟩ => imgAt W c t
    | ⟨2, _⟩ => affine (rowsAt W c t) (imgAt W c t)
  Φ _ := BI.emp
  q _ := fullShare
  owed _ := 0
  recorded _ := {p | (K (F := F)).lev (SparseCore.T c, p.1) p.2 ≤ lvl}

abbrev adm : (p : Fin 1) → (pcfgs (F := F) p).Adm := fun p => (cfgs p).toPCfg_adm

/-- The same, by pipeline: there is one. -/
def pdats : (p : Fin 1) → (c : Dev nD) → Dat τ (Elt F) (HIx 1) ℕ UU ℕ (Pipeline.pin (pcfgs (F := F)) adm p) c
  | ⟨0, _⟩ => fun c => dat W lvl c

theorem before_rows (c : Dev nD) (t : Fin cfg1.N) (d : Vec F S8x768 .f32) : (dat W lvl c).before 0 t d = rowsAt W c t := by
  unfold Dat.before; rw [if_pos (fetch1_0 t)]; rfl
theorem before_img (c : Dev nD) (t : Fin cfg1.N) (d : Vec F S8192x384 .f32) : (dat W lvl c).before 1 t d = imgAt W c t := by
  unfold Dat.before; rw [if_pos (fetch1_1 t)]; rfl

/-- The library's obligation at every point. -/
theorem body_at (c : Dev nD) : BodyObligation (dat W lvl c) (defs₀ (F := F)) 𝒱₀ (none : HIx 1) Set.univ := fun t => by
  rw [bigSep_W1, bigSep_W1]
  rw [show (dat W lvl c).Φ t.castSucc = BI.emp from rfl, show (dat W lvl c).Φ t.succ = BI.emp from rfl,
    show (dat W lvl c).owesAt none t.succ = (dat W lvl c).owesAt none t.castSucc from rfl]
  iintro ⟨-, Howes, ⟨%d0, H0⟩, ⟨%d1, H1⟩, ⟨%d2, H2⟩⟩
  rw [before_rows, before_img]
  iapply (affine_owns c (grid1.coords t) (st1_0 t) _ (st1_1 t) _ (st1_2 t) _ (rowsAt W c t) (imgAt W c t) _ Set.univ _)
  isplitl [H0]; · iexact H0
  isplitl [H1]; · iexact H1
  isplitl [H2]; · iexact H2
  iintro ⟨H0, H1, H2⟩
  isplitr; · iempintro
  isplitl [Howes]; · iexact Howes
  isplitl [H0]; · iexact H0
  isplitl [H1]; · iexact H1
  iexact H2

/-! ## The result -/

/-- The image a row of the whole array belongs to. -/
abbrev imageOfAll (j : S32768x384.Idx) : Fin 32 := ⟨(j 0).val / 1024, by have : (j 0).val < 32768 := (j 0).isLt; omega⟩

/-- What the launch makes of the gathered rows and the image: every row of image `k` scaled by the first half of
    gathered row `k`, the second half added. -/
def affineAll (g : Vec F S32x768 .f32) (x : Vec F S32768x384 .f32) : FVec F S32768x384 .f32 :=
  addf (mulf (φ := .f32) x fun j => g (at2 (imageOfAll j) (⟨(j 1).val, by have : (j 1).val < 384 := (j 1).isLt; omega⟩ : Fin 768)))
    fun j => g (at2 (imageOfAll j) (⟨384 + (j 1).val, by have : (j 1).val < 384 := (j 1).isLt; omega⟩ : Fin 768))

/-- Point `t` is given block `t` of each array, counted along the rows. -/
theorem index_rows : ∀ t : Fin cfg1.N, (cfg1.win 0).index t = ![t.val, 0] ∧ (cfg1.win 1).index t = ![t.val, 0] ∧ (cfg1.win 2).index t = ![t.val, 0] := by
  decide

/-- The gathered rows' element `y` of point `t`'s block. -/
theorem rows_emb (t : Fin cfg1.N) (a : Fin 8) (b : Fin 768) (h : t.val * 8 + a.val < 32) :
    (((cfg1.win 0).rect t).emb (at2 a b) : S32x768.Idx) = at2 (⟨t.val * 8 + a.val, h⟩ : Fin 32) b :=
  Shape.idx_ext₂ (((cfg1.win 0).rect_emb_val t (at2 a b) (0 : Fin 2)).trans (by rw [(index_rows t).1]; rfl))
    (((cfg1.win 0).rect_emb_val t (at2 a b) (1 : Fin 2)).trans (by rw [(index_rows t).1]; show 0 * 768 + b.val = b.val; omega))

/-- The result's element `y` of point `t`'s block: row `8192 t + y 0`, column `y 1`. -/
theorem res_emb (t : Fin cfg1.N) (y : S8192x384.Idx) :
    ((((cfg1.win 2).rect t).emb y : S32768x384.Idx) 0).val = t.val * 8192 + (y 0).val
      ∧ ((((cfg1.win 2).rect t).emb y : S32768x384.Idx) 1).val = (y 1).val :=
  ⟨((cfg1.win 2).rect_emb_val t y (0 : Fin 2)).trans (by rw [(index_rows t).2.2]; rfl),
    ((cfg1.win 2).rect_emb_val t y (1 : Fin 2)).trans (by rw [(index_rows t).2.2]; show 0 * 384 + (y 1).val = _; omega)⟩

/-- What a point writes back is its block of `affineAll` of the two arrays. -/
theorem flushed_eq (c : Dev nD) (t : Fin cfg1.N) :
    (dat W lvl c).flushed 2 t = ((cfg1.win 2).blk t).view.read (Elt F) (affineAll (W c main_v0) (W c main_v2)) := by
  funext y
  obtain ⟨h0, h1⟩ := res_emb t y
  have hy0 : (y 0).val < 8192 := (y 0).isLt
  have hy1 : (y 1).val < 384 := (y 1).isLt
  have ht : t.val < 4 := lt_of_lt_of_eq t.isLt N_1
  have hrow (b : Fin 768) (b' : Fin 768) (hb : b.val = b'.val) :
      (((cfg1.win 0).rect t).emb (at2 (imageOf y) b) : S32x768.Idx) = at2 (imageOfAll (((cfg1.win 2).rect t).emb y)) b' :=
    (rows_emb t (imageOf y) b (by show t.val * 8 + (y 0).val / 1024 < 32; omega)).trans
      (Shape.idx_ext₂ (show t.val * 8 + (y 0).val / 1024 = (((((cfg1.win 2).rect t).emb y : S32768x384.Idx) 0).val) / 1024 by rw [h0]; omega) hb)
  have himg : (((cfg1.win 1).rect t).emb y : S32768x384.Idx) = ((cfg1.win 2).rect t).emb y := rfl
  exact congrArg₂ (FloatOps.addf (F := F) (φ := .f32))
    (congrArg₂ (FloatOps.mulf (F := F) (φ := .f32)) (congrArg (W c main_v2) himg)
      (congrArg (W c main_v0) (hrow ⟨(y 1).val, by omega⟩ ⟨((((cfg1.win 2).rect t).emb y : S32768x384.Idx) 1).val, by rw [h1]; omega⟩ h1.symm)))
    (congrArg (W c main_v0) (hrow ⟨384 + (y 1).val, by omega⟩ ⟨384 + ((((cfg1.win 2).rect t).emb y : S32768x384.Idx) 1).val, by rw [h1]; omega⟩
      (show 384 + (y 1).val = 384 + _ by rw [h1])))

/-- The four blocks tile the result. -/
theorem res_cover (i : S32768x384.Idx) : ∃ t : Fin cfg1.N, (cfg1.win 2).flush t = true ∧ i ∈ ((cfg1.win 2).blk t).view.set := by
  have hi : (i 0).val < 32768 := (i 0).isLt
  refine ⟨⟨(i 0).val / 8192, by rw [show cfg1.N = 4 from N_1]; omega⟩, flush1_2 _, ?_⟩
  refine Finset.mem_map.mpr ⟨at2 (⟨(i 0).val % 8192, Nat.mod_lt _ (by decide)⟩ : Fin 8192) (i 1), Finset.mem_univ _, ?_⟩
  obtain ⟨h0, h1⟩ := res_emb ⟨(i 0).val / 8192, by rw [show cfg1.N = 4 from N_1]; omega⟩ (at2 (⟨(i 0).val % 8192, Nat.mod_lt _ (by decide)⟩ : Fin 8192) (i 1))
  exact Shape.idx_ext₂ (h0.trans (show (i 0).val / 8192 * 8192 + (i 0).val % 8192 = (i 0).val by omega)) h1

/-- So the result is `affineAll` of the two arrays. -/
theorem result_eq (c : Dev nD) : (dat W lvl c).arrAt 2 cfg1.N = affineAll (W c main_v0) (W c main_v2) :=
  (dat W lvl c).arrAt_eq_of_cover 2 _ (fun t _ => flushed_eq W lvl c t) res_cover

/-! ## The region -/

/-- The contents of the unscoped buffers after the launch: the result's changed. -/
def afterAffine (c : Dev nD) (b : Ref sig .tc) : Buf (Elt F) ((c : Thread nD τ).loc b) :=
  if h : b = main_v3 then h ▸ affineAll (W c main_v0) (W c main_v2) else W c b

theorem afterAffine_res (c : Dev nD) : afterAffine W c main_v3 = affineAll (W c main_v0) (W c main_v2) := by
  unfold afterAffine; rw [dif_pos rfl]
theorem afterAffine_ne (c : Dev nD) (b : Ref sig .tc) (h : b ≠ main_v3) : afterAffine W c b = W c b := by
  unfold afterAffine; rw [dif_neg h]

/-- What the core owes and has waited for around the launch: nothing, and nothing above level `lvl`. -/
abbrev owesNone (c : Dev nD) : sProp 𝕄 :=
  iprop(∃ w, ⌜(K (F := F)).WBelow (SparseCore.T c) w lvl⌝ ∗ owes (c : Thread nD τ) (0 : CellTallies nD τ sig (HIx 1)) w)

theorem owes_enter (c : Dev nD) : owesNone (F := F) lvl c ⊢ (dat W lvl c).owesAt (none : HIx 1) 0 := by
  unfold Pipeline.Dat.owesAt Pipeline.owesWithin
  iintro ⟨%w, %hw, H⟩
  iexists w; isplitr; · ipureintro; exact fun p hp => Or.inl (hw p hp)
  iexact H

theorem owes_leave (c : Dev nD) : (dat W lvl c).owesAt (none : HIx 1) (Fin.last cfg1.N) ⊢ owesNone (F := F) lvl c := by
  unfold Pipeline.Dat.owesAt Pipeline.owesWithin
  iintro ⟨%w, %hw, H⟩
  iexists w; isplitr
  · ipureintro
    intro p hp
    rcases hw hp with h | ⟨v, s, rfl⟩
    · exact h
    · exact Nat.zero_le _
  iexact H

set_option backward.isDefEq.respectTransparency.types false in
/-- The launch as a region: entered with the unscoped buffers at `W`, left with them at `afterAffine W`. -/
def affineRegion : Pipeline.RegionSeg (pcfgs (F := F)) adm (pdats W lvl) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_at W lvl c).loose
  hwaits := Pipeline.hwaits_of_owed_zero _ _ _ _ _ _ 0 fun _ _ => rfl
  pre c := iprop(unscopedBufs c (W c) ∗ owesNone lvl c)
  post c := iprop(unscopedBufs c (afterAffine W c) ∗ owesNone lvl c)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W lvl) launch1.win launch1.arr_whole c
      ((pdats W lvl 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_enter W lvl c); iexact HO
    isplitr; · iempintro
    iexact Hrest
  hin c := by
    rw [show (pdats W lvl 0 c).Φ 0 = BI.emp from rfl]
    iintro -; iempintro
  hout c := by
    rw [Pipeline.ownSems0_none, show Pipeline.scopedRest (Pipeline.pin (pcfgs (F := F)) adm 0).spec c = (BI.emp : sProp 𝕄) from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (pdats W lvl) ((pdats W lvl 0 c).share_full fun _ => rfl) (W c) (afterAffine W c) ((pdats W lvl 0 c).arrAt · cfg1.N)
      (fun w => by
        fin_cases w
        · exact ((pdats W lvl 0 c).arrAt_in 0 rfl _).trans (afterAffine_ne W c main_v0 (by decide)).symm
        · exact ((pdats W lvl 0 c).arrAt_in 1 rfl _).trans (afterAffine_ne W c main_v2 (by decide)).symm
        · exact (result_eq W lvl c).trans (afterAffine_res W c).symm)
      (fun b hb => afterAffine_ne W c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (owes_leave W lvl c); iexact HO

end Cert.Proof.Rows

end
-- ==== Proof.Main.lean ====
/-
  @main, and the whole program's run.

  @main calls the SparseCore kernel, lays the image out with its channels last and its pixels in one list, launches the
  TensorCore kernel, and lays the result out as the image was. The unscoped buffers are carried through it whole, at
  contents written down before each step; what is left at the end is the three arguments as they were and the result at
  `outOf` of the gathered rows and the image.
-/
module

public import proofs.«01_k».proof.Proof.Tile
public import proofs.«01_k».proof.Proof.AffineRegion

@[expose] public section

noncomputable section

namespace Cert.Proof.Rows

open Cert.KernelIdeal Cert.KernelIdeal.Gen

open Idealize.ShloMosaic
open Idealize.ShloMosaic.TcCoe
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch -/

/-- The staging cells of the TensorCore pipeline are distinct, read off the pinned configuration. -/
theorem staging_inj : Function.Injective (Pipeline.cellOf (nD := nD) (τ := τ) (Pipeline.pin (pcfgs (F := F)) adm)) := cellOf_inj

/-- The staging cells, and the transfers that signal them. -/
abbrev pCells : Finset (GSem nD τ sig) := Pipeline.cells (Pipeline.pin (pcfgs (F := F)) adm) staging_inj
abbrev pToks : Finset (GSem nD τ sig × ℕ × Unit) := Pipeline.launchToks (Pipeline.pin (pcfgs (F := F)) adm) staging_inj

/-- The launch's ghost state: the handshakes' rounds, the staging transfers' rounds, no counter. -/
def u₀ : UU := (initOf (K (F := F)).hsCells (K (F := F)).hsToks, (initOf (pCells (F := F)) (pToks (F := F)), 1))

/-- What each TensorCore is dealt of it for its own pipeline. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The call's payloads hold nothing extra for any thread. -/
theorem extra_emp : (bigSep Finset.univ fun thr : Thread nD τ => bigSep Finset.univ fun q : Fin 1 => (P (F := F) m).x q thr) = (iprop(emp) : sProp 𝕄) := by
  rw [show (fun thr : Thread nD τ => bigSep Finset.univ fun q : Fin 1 => (P (F := F) m).x q thr) = fun _ => iprop(emp) from
    funext fun _ => bigSep_univ_of_subsingleton (0 : Fin 1)]
  exact bigSep_emp_const _

/-- Over the one pipeline, the staging ghost state of every core is `G` of every core. -/
theorem ghost_deal :
    iprop((bigSep Finset.univ fun c : Dev nD => bigSep Finset.univ fun p : Fin 1 => Pipeline.cellsGhost (Pipeline.pin (pcfgs (F := F)) adm) (EP (F := F)) p c)
      ∗ bigSep Finset.univ fun c : Dev nD => bigSep Finset.univ fun p : Fin 1 => Pipeline.toksInit (Pipeline.pin (pcfgs (F := F)) adm) (EP (F := F)) p c)
    ⊢ (bigSep Finset.univ (G (F := F)) : sProp 𝕄) := by
  unfold G
  rw [bigSep_sep']
  exact BI.sep_mono (bigSep_mono fun c _ => Entails.of_eq (bigSep_univ_of_subsingleton (0 : Fin 1)))
    (bigSep_mono fun c _ => Entails.of_eq (bigSep_univ_of_subsingleton (0 : Fin 1)))

/-- The launch's ghost state makes the handshakes' and every core's `G`. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  rw [extra_emp]
  unfold u₀
  iintro Hu
  ihave H := (ownU_pair (initOf (K (F := F)).hsCells (K (F := F)).hsToks) ((initOf (pCells (F := F)) (pToks (F := F)), 1) : UP × Counters)) $$ Hu
  icases H with ⟨HH, HR⟩
  ihave H := (own_pair_emb embR (initOf (pCells (F := F)) (pToks (F := F))) (1 : Counters)) $$ HR
  icases H with ⟨HP, -⟩
  imod (Pipeline.fund_ghost (Pipeline.pin (pcfgs (F := F)) adm) (EP (F := F)) staging_inj) $$ HP with Hg
  imodintro
  isplitl [HH]; · iexact HH
  isplitl [Hg]; · iapply ghost_deal; iexact Hg
  iempintro

/-! ## The contents of the buffers through @main -/

/-- The image with its channels last, its pixels in one list. -/
def pixels (x : Vec F S32x384x32x32 .f32) : Vec F S32768x384 .f32 :=
  shapeCast S32768x384 (transpose S32x32x32x384 [0, 2, 3, 1] x transposes_S32x384x32x32_S32x32x32x384_0_2_3_1) shapeCasts_S32x32x32x384_S32768x384

/-- @main's result as a function of the gathered rows and the image. -/
def outOf (e : Vec F S32x768 .f32) (x : Vec F S32x384x32x32 .f32) : Vec F S32x384x32x32 .f32 :=
  transpose S32x384x32x32 [0, 3, 1, 2] (shapeCast S32x32x32x384 (affineAll e (pixels x)) shapeCasts_S32768x384_S32x32x32x384)
    transposes_S32x32x32x384_S32x384x32x32_0_3_1_2

abbrev opT : HloOp τ sig (Elt F) := StableHlo.unary main_arg0 main_v1 ((transpose S32x32x32x384 [0, 2, 3, 1] · transposes_S32x384x32x32_S32x32x32x384_0_2_3_1) : (⟨S32x384x32x32, .f32⟩ : BufTy).Contents (Elt F) → (⟨S32x32x32x384, .f32⟩ : BufTy).Contents (Elt F))
abbrev opR : HloOp τ sig (Elt F) := StableHlo.reshape main_v1 main_v2 (rfl : (.f32 : EltTy) = .f32) shapeCasts_S32x32x32x384_S32768x384
abbrev opR' : HloOp τ sig (Elt F) := StableHlo.reshape main_v3 main_v4 (rfl : (.f32 : EltTy) = .f32) shapeCasts_S32768x384_S32x32x32x384
abbrev opT' : HloOp τ sig (Elt F) := StableHlo.unary main_v4 main_v5 ((transpose S32x384x32x32 [0, 3, 1, 2] · transposes_S32x32x32x384_S32x384x32x32_0_3_1_2) : (⟨S32x32x32x384, .f32⟩ : BufTy).Contents (Elt F) → (⟨S32x384x32x32, .f32⟩ : BufTy).Contents (Elt F))

/-- A buffer of the TensorCore's, as a buffer of its device. -/
abbrev dr (b : Ref sig .tc) : DevRef τ sig := Proc.devRef .tc b

/-- At the launch; after the gather; after the image is laid out; after the TensorCore kernel; at the end. -/
def V0 (d : Dev nD) : Valuation τ sig (Elt F) := fun b => m (d, b)
def V1 (d : Dev nD) : Valuation τ sig (Elt F) := Function.update (V0 m d) (dr main_v0) (gath m d)
def V3 (d : Dev nD) : Valuation τ sig (Elt F) := (opR (F := F)).result ((opT (F := F)).result (V1 m d))
def V4 (d : Dev nD) : Valuation τ sig (Elt F) := Function.update (V3 m d) (dr main_v3) (affineAll (V3 m d (dr main_v0)) (V3 m d (dr main_v2)))
def V6 (d : Dev nD) : Valuation τ sig (Elt F) := (opT' (F := F)).result ((opR' (F := F)).result (V4 m d))

/-- A buffer neither laid-out image is kept by the two steps before the launch. -/
theorem V3_ne (d : Dev nD) (b : Ref sig .tc) (h1 : b ≠ main_v1) (h2 : b ≠ main_v2) : V3 m d (dr b) = V1 m d (dr b) :=
  (StableHlo.reshape_result_ne _ _ _ _ _ _ _ h2).trans (StableHlo.unary_result_ne _ _ _ _ _ _ h1)
/-- A buffer neither laid-out result is kept by the two steps after the launch. -/
theorem V6_ne (d : Dev nD) (b : Ref sig .tc) (h1 : b ≠ main_v4) (h2 : b ≠ main_v5) : V6 m d (dr b) = V4 m d (dr b) :=
  (StableHlo.unary_result_ne _ _ _ _ _ _ h2).trans (StableHlo.reshape_result_ne _ _ _ _ _ _ _ h1)
/-- An argument is kept throughout. -/
theorem V6_arg (d : Dev nD) (b : Ref sig .tc) (h0 : b ≠ main_v0) (h1 : b ≠ main_v1) (h2 : b ≠ main_v2) (h3 : b ≠ main_v3) (h4 : b ≠ main_v4)
    (h5 : b ≠ main_v5) : V6 m d (dr b) = m ((SparseCore.T d).loc b) :=
  (V6_ne m d b h4 h5).trans <| (Function.update_of_ne (StableHlo.devRef_ne_of_ne h3) _ _).trans <| (V3_ne m d b h1 h2).trans <|
    Function.update_of_ne (StableHlo.devRef_ne_of_ne h0) _ _

theorem V3_rows (d : Dev nD) : V3 m d (dr main_v0) = gath m d :=
  (V3_ne m d main_v0 (by decide) (by decide)).trans (Function.update_self _ _ _)
theorem V3_pixels (d : Dev nD) : V3 m d (dr main_v2) = pixels (m (xLoc d)) := by
  unfold V3
  rw [StableHlo.reshape_result, StableHlo.unary_result]
  rfl
theorem V6_res (d : Dev nD) : V6 m d (dr main_v5) = outOf (gath m d) (m (xLoc d)) := by
  unfold V6
  rw [StableHlo.unary_result, StableHlo.reshape_result, show V4 m d (dr main_v3) = _ from Function.update_self _ _ _, V3_rows, V3_pixels]
  rfl

/-! ## The unscoped buffers, held -/

/-- The unscoped buffers of the TensorCore, each as a buffer of its device. -/
abbrev SU : Finset (DevRef τ sig) :=
  {dr main_arg0, dr main_arg1, dr main_arg2, dr main_v0, dr main_v1, dr main_v2, dr main_v3, dr main_v4, dr main_v5}

/-- The two descriptions of the unscoped buffers agree. -/
theorem held_SU (d : Dev nD) (W : Valuation τ sig (Elt F)) : (held (T d) SU W : sProp 𝕄) = unscopedBufs d fun b => W (dr b) := by
  unfold unscopedBufs held SU
  rw [show (Finset.univ.filter fun b : Ref sig .tc => ¬ b.isScoped) = {main_arg0, main_arg1, main_arg2, main_v0, main_v1, main_v2, main_v3, main_v4, main_v5} by decide]
  repeat rw [SparseCore.bigSep_insert' (by decide), SparseCore.bigSep_insert' (by decide)]
  rw [bigSep_singleton, bigSep_singleton]

/-- The unscoped buffers the SparseCore call doesn't take. -/
abbrev SN : Finset (DevRef τ sig) := {dr main_arg0, dr main_v1, dr main_v2, dr main_v3, dr main_v4, dr main_v5}

/-- The call's three operands, and the rest. -/
theorem held_call (d : Dev nD) (W : Valuation τ sig (Elt F)) :
    (held (T d) SU W : sProp 𝕄)
      = iprop((yLoc d ↦{fullShare} W (dr main_arg1)) ∗ (tLoc d ↦{fullShare} W (dr main_arg2)) ∗ (eLoc d ↦{fullShare} W (dr main_v0)) ∗ held (T d) SN W) := by
  rw [show SU = insert (dr main_arg1) (insert (dr main_arg2) (insert (dr main_v0) SN)) by decide]
  unfold held
  rw [SparseCore.bigSep_insert' (by decide), SparseCore.bigSep_insert' (by decide), SparseCore.bigSep_insert' (by decide)]

/-- What the call takes out of the buffers at their launch contents. -/
theorem held_V0 (d : Dev nD) : (unscopedBufs d (fun b => m ((SparseCore.T d).loc b)) : sProp 𝕄)
    = iprop(yPts m d ∗ tPts m d ∗ ePts d (m (eLoc d)) ∗ held (T d) SN (V0 m d)) :=
  (held_SU d (V0 m d)).symm.trans (held_call d (V0 m d))

/-- What it puts back: the gathered rows, the others as they were. -/
theorem held_V1 (d : Dev nD) : (held (T d) SU (V1 m d) : sProp 𝕄) = iprop(yPts m d ∗ tPts m d ∗ ePts d (gath m d) ∗ held (T d) SN (V0 m d)) := by
  have hN : (held (T d) SN (V1 m d) : sProp 𝕄) = held (T d) SN (V0 m d) := by
    unfold held
    refine bigSep_congr fun b hb => ?_
    have hne : b ≠ dr main_v0 := fun h => absurd hb (h ▸ (by decide : dr main_v0 ∉ SN))
    unfold V1
    rw [Function.update_of_ne hne]
  rw [held_call, hN, show V1 m d (dr main_v0) = gath m d from Function.update_self _ _ _,
    show V1 m d (dr main_arg1) = m (yLoc d) from Function.update_of_ne (StableHlo.devRef_ne_of_ne (by decide)) _ _,
    show V1 m d (dr main_arg2) = m (tLoc d) from Function.update_of_ne (StableHlo.devRef_ne_of_ne (by decide)) _ _]

/-- The contents the TensorCore kernel is launched at. -/
abbrev W3 (c : Dev nD) (b : Ref sig .tc) : Buf (Elt F) ((c : Thread nD τ).loc b) := V3 m c (dr b)

/-- The TensorCore kernel leaves the buffers at `V4`. -/
theorem affine_V4 (d : Dev nD) : (unscopedBufs d (afterAffine (W3 m) d) : sProp 𝕄) = held (T d) SU (V4 m d) := by
  rw [held_SU]
  refine congrArg (unscopedBufs d) (funext fun b => ?_)
  by_cases h : b = main_v3
  · subst h
    rw [afterAffine_res]
    exact (Function.update_self (dr main_v3) (affineAll (V3 m d (dr main_v0)) (V3 m d (dr main_v2))) (V3 m d)).symm
  · rw [afterAffine_ne _ _ _ h]
    exact (Function.update_of_ne (StableHlo.devRef_ne_of_ne h) _ _).symm

/-- What the claims read at the end: the arguments as they were, and the result. -/
abbrev FIN (d : Dev nD) : sProp 𝕄 :=
  iprop((xLoc d ↦{fullShare} m (xLoc d)) ∗ yPts m d ∗ tPts m d ∗ ((SparseCore.T d).loc main_v5 ↦{fullShare} outOf (gath m d) (m (xLoc d))))

theorem held_V6 (d : Dev nD) : (held (T d) SU (V6 m d) : sProp 𝕄) ⊢ FIN m d := by
  rw [held_call]
  unfold held
  rw [SparseCore.bigSep_insert' (by decide), SparseCore.bigSep_insert' (by decide), SparseCore.bigSep_insert' (by decide),
    SparseCore.bigSep_insert' (by decide), SparseCore.bigSep_insert' (by decide), bigSep_singleton, V6_res,
    V6_arg m d main_arg0 (by decide) (by decide) (by decide) (by decide) (by decide) (by decide),
    V6_arg m d main_arg1 (by decide) (by decide) (by decide) (by decide) (by decide) (by decide),
    V6_arg m d main_arg2 (by decide) (by decide) (by decide) (by decide) (by decide) (by decide)]
  iintro ⟨Hy, Ht, -, Hx, -, -, -, -, Ho⟩
  isplitl [Hx]; · iexact Hx
  isplitl [Hy]; · iexact Hy
  isplitl [Ht]; · iexact Ht
  iexact Ho

/-! ## @main -/

theorem st_eq (d : Dev nD) : (bigSep Finset.univ fun c : Fin ((K (F := F)).nCore 0) => (P m).st 0 d c) = iprop(yPts m d ∗ tPts m d ∗ ePts d (m (eLoc d))) :=
  bigSep_univ_of_subsingleton (0 : Fin 1)
theorem dn_eq (d : Dev nD) : (bigSep Finset.univ fun c : Fin ((K (F := F)).nCore 0) => (P m).dn 0 d c) = iprop(yPts m d ∗ tPts m d ∗ ePts d (gath m d)) :=
  bigSep_univ_of_subsingleton (0 : Fin 1)

theorem sub_T : (opT (F := F)).bufs ⊆ SU := show ({dr main_arg0, dr main_v1} : Finset (DevRef τ sig)) ⊆ SU by decide
theorem sub_R : (opR (F := F)).bufs ⊆ SU := show ({dr main_v1, dr main_v2} : Finset (DevRef τ sig)) ⊆ SU by decide
theorem sub_R' : (opR' (F := F)).bufs ⊆ SU := show ({dr main_v3, dr main_v4} : Finset (DevRef τ sig)) ⊆ SU by decide
theorem sub_T' : (opT' (F := F)).bufs ⊆ SU := show ({dr main_v4, dr main_v5} : Finset (DevRef τ sig)) ⊆ SU by decide

/-- After the one call the TensorCore owes no signal: its state is what it owes and has waited for, and a rest. -/
theorem tcSt_split (d : Dev nD) : ∃ (lvl : ℕ) (R : sProp 𝕄), ((K (F := F)).tcSt EH d 1 : sProp 𝕄) = iprop(owesNone (F := F) lvl d ∗ R) := by
  unfold SparseCore.Cfg.tcSt
  rw [(K (F := F)).Otc_end d (le_refl 1)]
  exact ⟨_, _, rfl⟩

/-- The launch of the TensorCore kernel, as @main makes it. -/
theorem affine_launch [∀ e, Nonempty (Elt F e)] (κ : GSem nD τ sig → ℕ) (lvl : ℕ) (d : Dev nD) (Q : PUnit → sProp 𝕄) :
    iprop((K (F := F)).ctx EH (P m) κ ∗ boundary (T d) ∗ held (T d) SU (V3 m d) ∗ owesNone (F := F) lvl d ∗ G (F := F) d
        ∗ (iprop(boundary (T d) ∗ held (T d) SU (V4 m d) ∗ owesNone (F := F) lvl d) -∗ Q ⟨⟩))
      ⊢ wp frame (wpE ((K (F := F)).defs (D (F := F))) 𝒱 (SparseCore.T d) none) Set.univ
          (Prog.lift (.customCall (SparseCore.inner (Pipeline.entry 0)) ())) Q := by
  have hrun := (Pipeline.RegionSeg.wp (pcfgs (F := F)) adm (pdats (W3 m) lvl) (none : HIx 1) staging_inj EP defs₀ 𝒱₀ (K (F := F)).L (K (F := F)).lev
    (affineRegion (W3 m) lvl) d none (fun _ h => nomatch h) .ret Q).trans
    ((K (F := F)).wp_liftProg (D (F := F)) 𝒱 (SparseCore.T d) Set.univ none (.op (.customCall (Pipeline.entry 0) ()) .ret) Q)
  iintro ⟨#Hctx, Hb, Hh, HO, ⟨Hg, Ht⟩, Hk⟩
  iapply hrun
  rw [show (affineRegion (W3 m) lvl).post d = iprop(unscopedBufs d (afterAffine (W3 m) d) ∗ owesNone (F := F) lvl d) from rfl,
    show (affineRegion (W3 m) lvl).pre d = iprop(unscopedBufs d (W3 m d) ∗ owesNone (F := F) lvl d) from rfl]
  isplitl [Hk]
  · iintro ⟨Hb, Hh, HO⟩
    rw [wp_ret]; imodintro
    iapply Hk
    isplitl [Hb]; · iexact Hb
    isplitl [Hh]; · iapply (Entails.of_eq (affine_V4 m d)); iexact Hh
    iexact HO
  isplitl [Hb]; · iexact Hb
  isplitl [Hh HO]
  · isplitl [Hh]; · iapply (Entails.of_eq (held_SU d (V3 m d))); iexact Hh
    iexact HO
  isplitr; · iapply (SparseCore.Cfg.ctx_levAts κ); iexact Hctx
  isplitl [Hg] <;> iassumption

/-- @main on a TensorCore: the gather, the image laid out, the TensorCore kernel, the result laid out. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨lvl, R, hR⟩ := tcSt_split (F := F) d
  unfold SparseCore.Cfg.tcRes SparseCore.Cfg.tcEnd
  rw [held_V0]
  simp only [main, wp_bind, wp_pure]
  iintro ⟨#Hctx, Hst, ⟨Hb, ⟨Hy, Ht, He, Hn⟩, Hts, -⟩, HG⟩
  iapply ((K (F := F)).wp_run (D (F := F)) 𝒱 (EH := EH) (P := P m) κ d 0) $$ [Hst Hy Ht He Hn Hb Hts HG]
  isplitr; · iexact Hctx
  isplitl [Hst]; · iexact Hst
  isplitl [Hy Ht He]
  · rw [st_eq]
    isplitl [Hy]; · iexact Hy
    isplitl [Ht] <;> iassumption
  iintro ⟨Hst, Hdn⟩
  ihave Hdn' := (Entails.of_eq (dn_eq m d)) $$ Hdn
  icases Hdn' with ⟨Hy, Ht, He⟩
  iapply (wp_hlo_within 𝒱 (SparseCore.T d) none Set.univ (op := opT) (S := SU) sub_T (V := V1 m d)) $$ [Hb Hy Ht He Hn]
  · isplitl [Hb]; · iexact Hb
    iapply (Entails.of_eq (held_V1 m d).symm)
    isplitl [Hy]; · iexact Hy
    isplitl [Ht]; · iexact Ht
    isplitl [He] <;> iassumption
  iintro ⟨Hb, Hh⟩
  rw [wp_ret]; imodintro
  iapply (wp_hlo_within 𝒱 (SparseCore.T d) none Set.univ (op := opR) (S := SU) sub_R (V := (opT (F := F)).result (V1 m d))) $$ [Hb Hh]
  · isplitl [Hb] <;> iassumption
  iintro ⟨Hb, Hh⟩
  rw [wp_ret]; imodintro
  ihave Hst' := (show ((K (F := F)).tcSt EH d ((0 : Fin 1).val + 1) : sProp 𝕄) ⊢ _ from Entails.of_eq hR) $$ Hst
  icases Hst' with ⟨HO, HR⟩
  iapply (affine_launch m κ lvl d)
  isplitr; · iexact Hctx
  isplitl [Hb]; · iexact Hb
  isplitl [Hh]; · iexact Hh
  isplitl [HO]; · iexact HO
  isplitl [HG]; · iexact HG
  iintro ⟨Hb, Hh, HO⟩
  iapply (wp_hlo_within 𝒱 (SparseCore.T d) none Set.univ (op := opR') (S := SU) sub_R' (V := V4 m d)) $$ [Hb Hh]
  · isplitl [Hb] <;> iassumption
  iintro ⟨Hb, Hh⟩
  rw [wp_ret]; imodintro
  iapply (wp_hlo_within 𝒱 (SparseCore.T d) none Set.univ (op := opT') (S := SU) sub_T' (V := (opR' (F := F)).result (V4 m d))) $$ [Hb Hh]
  · isplitl [Hb] <;> iassumption
  iintro ⟨Hb, Hh⟩
  rw [wp_ret]; imodintro
  imodintro
  isplitl [HO HR]
  · iapply (Entails.of_eq hR.symm)
    isplitl [HO] <;> iassumption
  isplitl [Hh]; · iapply (held_V6 m d); iexact Hh
  isplitl [Hb] <;> iassumption

/-- The final memory: the arguments as they were, the result `outOf` of the gathered rows and the image. -/
def fq (d : Dev nD) (s : Phys nD τ sig (Elt F)) : Prop :=
  s.mem.mem (xLoc d) = m (xLoc d) ∧ s.mem.mem (yLoc d) = m (yLoc d) ∧ s.mem.mem (tLoc d) = m (tLoc d)
    ∧ s.mem.mem ((SparseCore.T d).loc main_v5) = outOf (gath m d) (m (xLoc d))

/-- A whole buffer held at `f` beside the machine's state is `f` in that state's memory. -/
theorem read_whole (s : Phys nD τ sig (Elt F)) (ℓ : Loc nD τ sig) (f : Buf (Elt F) ℓ) :
    iprop(SI s ∗ (ℓ ↦{fullShare} f)) ⊢ (iprop(⌜s.mem.mem ℓ = f⌝ ∗ SI s) : sProp 𝕄) := by
  iintro H
  ihave H' := (persistent_entails_right (SI_pointsTo_agree (st := s) (ℓ := ℓ) (I := Finset.univ) (q := fullShare) (f := f))) $$ H
  icases H' with ⟨%h, HSI, -⟩
  isplitr; · ipureintro; exact funext fun i => h i (Finset.mem_univ i)
  iexact HSI

theorem hfin (d : Dev nD) (s : Phys nD τ sig (Elt F)) : iprop(FIN m d ∗ SI s) ⊢ (⌜fq m d s⌝ : sProp 𝕄) := by
  iintro ⟨⟨Hx, Hy, Ht, Ho⟩, HSI⟩
  ihave H := (read_whole s _ _) $$ [HSI Hx]
  · isplitl [HSI] <;> iassumption
  icases H with ⟨%h1, HSI⟩
  ihave H := (read_whole s _ _) $$ [HSI Hy]
  · isplitl [HSI] <;> iassumption
  icases H with ⟨%h2, HSI⟩
  ihave H := (read_whole s _ _) $$ [HSI Ht]
  · isplitl [HSI] <;> iassumption
  icases H with ⟨%h3, HSI⟩
  ihave H := (read_whole s _ _) $$ [HSI Ho]
  · isplitl [HSI] <;> iassumption
  icases H with ⟨%h4, -⟩
  ipureintro; exact ⟨h1, h2, h3, h4⟩

/-- What the program's run ends with: every device's final memory as `fq` says, and every semaphore at zero. -/
def QC : PUnit × MemSt nD τ sig (Elt F) → Prop := fun r =>
  (∀ d : Dev nD, r.2.mem (xLoc d) = m (xLoc d) ∧ r.2.mem (yLoc d) = m (yLoc d) ∧ r.2.mem (tLoc d) = m (tLoc d)
    ∧ r.2.mem ((SparseCore.T d).loc main_v5) = outOf (gath m d) (m (xLoc d))) ∧ r.2.sem = fun _ => 0

/-- The program runs from any memory whose indices are in the table's range, and ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Rows

end
-- ==== Proof.RefValue.lean ====
/-
  What the reference computes, element by element, when every index is in the table's range.

  The reference takes rows of the table as `jnp.take` does: a negative index counts from the end, and a row whose index is
  still out of range is filled. In range neither happens, and row `j` of what is taken is row `y j` of the table. The
  rest multiplies the image by the first half of its row and adds the second half.
-/
module

public import proofs.«01_k».proof.Proof.Base
public import proofs.«01_k».proof.Proof.Gen.ReferenceIdeal
public import Idealize.ShloMosaic.Lib.ReduceAll
public import Idealize.ShloMosaic.Lib.Routing.Ops

@[expose] public section

noncomputable section

namespace Cert.Proof.Reference

open Cert.ReferenceIdeal Cert.ReferenceIdeal.Gen
open Cert.Proof.Rows (at1 at2 rowNo rowNo_val)
open Idealize.ShloMosaic

variable {F : FTy → Type} [FloatOps F]

/-! ## Words below a thousand -/

/-- Such a word is not negative, -/
theorem not_negative {v : BitVec 32} (h : v.toNat < 1000) : IntOp.cmpi .slt v 0#32 = 0#1 := by
  have e : BitVec.slt v 0#32 = false := by
    rw [BitVec.slt_eq_decide, decide_eq_false_iff_not, BitVec.toInt_eq_toNat_cond]
    simp only [BitVec.toInt_zero]; omega
  show BitVec.ofBool (BitVec.slt v 0#32) = 0#1
  rw [e]; rfl
/-- is at least zero, -/
theorem at_least_zero {v : BitVec 32} (h : v.toNat < 1000) : IntOp.cmpi .sge v 0#32 = 1#1 := by
  have e : BitVec.sle 0#32 v = true := by
    rw [BitVec.sle_eq_decide, decide_eq_true_eq, BitVec.toInt_eq_toNat_cond (x := v)]
    simp only [BitVec.toInt_zero]; omega
  show BitVec.ofBool (BitVec.sle 0#32 v) = 1#1
  rw [e]; rfl
/-- and is at most 999. -/
theorem at_most_last {v : BitVec 32} (h : v.toNat < 1000) : IntOp.cmpi .sle v 999#32 = 1#1 := by
  have e : BitVec.sle v 999#32 = true := by
    rw [BitVec.sle_eq_decide, decide_eq_true_eq, BitVec.toInt_eq_toNat_cond (x := v)]
    rw [show (999#32 : BitVec 32).toInt = 999 by decide]; omega
  show BitVec.ofBool (BitVec.sle v 999#32) = 1#1
  rw [e]; rfl

/-! ## The rows taken -/

/-- The indices, a negative one counted from the end, as a column. -/
abbrev column (y : IVec S32 32) : IVec S32x1 32 :=
  broadcastInDim S32x1 ![0] bcast_S32_S32x1_0
    (select (cmpi .slt y (broadcastInDim S32 ![] bcast_S_S32 (constantI S_ 32 0#32))) (addi y (broadcastInDim S32 ![] bcast_S_S32 (constantI S_ 32 1000#32))) y)

/-- Which of them are in range. -/
abbrev inRange (y : IVec S32 32) : IVec S32x1 1 :=
  andi (cmpi .sge (column y) (broadcastInDim S32x1 ![] bcast_S_S32x1 (constantI S_ 32 0#32)))
    (cmpi .sle (column y) (broadcastInDim S32x1 ![0, 1] bcast_S1x1_S32x1_0_1 (broadcastInDim S1x1 ![1] bcast_S1_S1x1_1 (constantI S1 32 999#32))))

/-- The rows taken, those out of range filled. -/
abbrev taken (y : IVec S32 32) (t : FVec F S1000x768 .f32) : FVec F S32x768 .f32 :=
  select (broadcastInDim S32x768 ![0] bcast_S32_S32x768_0 (Host.reduce IntOp.andi (inRange y) (constantI S_ 1 1#1) reducesTo_S32x1_S32_d1 h_S_))
    (Host.gather gather_S1000x768_S32x1_S32x768_1_0_n_n_0_1_1768 t (column y))
    (broadcastInDim S32x768 ![] bcast_S_S32x768 (constant S_ .f32 0x7FC00000#32))

/-- In range, the column holds the indices themselves. -/
theorem column_apply (y : IVec S32 32) (hy : ∀ j, (y j).toNat < 1000) (k : S32x1.Idx) : column y k = y (at1 (n := 32) (k 0)) := by
  refine (broadcastInDim_apply ![0] bcast_S32_S32x1_0 _ k (at1 (n := 32) (k 0)) fun a => by fin_cases a; rfl).trans ?_
  show Scalar.select (IntOp.cmpi .slt (y (at1 (n := 32) (k 0))) 0#32) _ (y (at1 (n := 32) (k 0))) = _
  rw [not_negative (hy _)]; rfl

/-- In range, all are in range. -/
theorem inRange_apply (y : IVec S32 32) (hy : ∀ j, (y j).toNat < 1000) (k : S32x1.Idx) : inRange y k = 1#1 := by
  show IntOp.andi (IntOp.cmpi .sge (column y k) 0#32) (IntOp.cmpi .sle (column y k) 999#32) = 1#1
  rw [column_apply y hy, at_least_zero (hy _), at_most_last (hy _)]; rfl

/-- In range, row `j` of what is taken is row `y j` of the table. -/
theorem taken_apply (y : IVec S32 32) (hy : ∀ j, (y j).toNat < 1000) (t : FVec F S1000x768 .f32) (a : Fin 32) (b : Fin 768) :
    taken y t (at2 a b) = t (at2 (rowNo (y (at1 a))) b) := by
  have hmask : broadcastInDim S32x768 ![0] bcast_S32_S32x768_0
      (Host.reduce IntOp.andi (inRange y) (constantI S_ 1 1#1) reducesTo_S32x1_S32_d1 h_S_) (at2 a b) = 1#1 :=
    Host.reduce_andi_one _ _ _ _ _ rfl (inRange_apply y hy)
  show Scalar.select _ _ _ = _
  rw [hmask]
  show Host.gather gather_S1000x768_S32x1_S32x768_1_0_n_n_0_1_1768 t (column y) (at2 a b) = _
  rw [show (at2 a b : S32x768.Idx) = ValueIdx.ix2 a b from Shape.idx_ext₂ rfl rfl]
  refine (Routing.gather_row gather_S1000x768_S32x1_S32x768_1_0_n_n_0_1_1768 rfl rfl rfl rfl rfl t (column y) a b (rowNo (y (at1 a))) ?_ (by decide)).trans
    (congrArg t (Shape.idx_ext₂ rfl rfl))
  refine (column_apply y hy _).trans ?_
  rw [rowNo_val (hy _), BitVec.ofNat_toNat, BitVec.setWidth_eq]

/-! ## The result -/

/-- The four coordinates of an element, as an index. -/
def at4 {n k p q : ℕ} (a : Fin n) (b : Fin k) (c : Fin p) (e : Fin q) : (⟨4, ![n, k, p, q]⟩ : Shape).Idx
  | ⟨0, _⟩ => a
  | ⟨1, _⟩ => b
  | ⟨2, _⟩ => c
  | ⟨3, _⟩ => e

/-- One half of the rows taken, repeated over every pixel. -/
theorem half_apply (g : FVec F S32x768 .f32) (o : ℕ) (ho : o + 384 ≤ 768) (h : S32x768.Slices ![0, o] S32x384) (a : Fin 32) (b : Fin 384) (c e : Fin 32) :
    broadcastInDim S32x384x32x32 ![0, 1, 2, 3] bcast_S32x384x1x1_S32x384x32x32_0_1_2_3
        (shapeCast S32x384x1x1 (extractStridedSlice S32x384 ![0, o] g h) shapeCasts_S32x384_S32x384x1x1) (at4 a b c e)
      = g (at2 a (⟨o + b.val, by omega⟩ : Fin 768)) := by
  refine (broadcastInDim_apply ![0, 1, 2, 3] bcast_S32x384x1x1_S32x384x32x32_0_1_2_3 _ (at4 a b c e)
    (at4 a b (0 : Fin 1) (0 : Fin 1)) fun k => by fin_cases k <;> rfl).trans ?_
  refine (shapeCast_apply _ shapeCasts_S32x384_S32x384x1x1 _ (at2 a b) ?_).trans ?_
  · refine (Shape.rowMajor_val_two _).trans (Eq.trans ?_ (Shape.rowMajor_val_four _).symm)
    show a.val * 384 + b.val = ((a.val * 384 + b.val) * 1 + 0) * 1 + 0
    omega
  · exact extractStridedSlice_apply _ g h _ _ fun k => by
      fin_cases k
      · exact (Nat.zero_add _).symm
      · rfl

/-- The reference's result as a function of its arguments: what its run ends with. -/
abbrev resultOf (x : FVec F S32x384x32x32 .f32) (y : IVec S32 32) (t : FVec F S1000x768 .f32) : FVec F S32x384x32x32 .f32 :=
  addf
    (mulf (broadcastInDim S32x384x32x32 ![0, 1, 2, 3] bcast_S32x384x1x1_S32x384x32x32_0_1_2_3
      (shapeCast S32x384x1x1 (extractStridedSlice S32x384 ![0, 0] (taken y t) slices_S32x768_S32x384_0_0) shapeCasts_S32x384_S32x384x1x1)) x)
    (broadcastInDim S32x384x32x32 ![0, 1, 2, 3] bcast_S32x384x1x1_S32x384x32x32_0_1_2_3
      (shapeCast S32x384x1x1 (extractStridedSlice S32x384 ![0, 384] (taken y t) slices_S32x768_S32x384_0_384) shapeCasts_S32x384_S32x384x1x1))

/-- Its element at image `a`, channel `b`, pixel `(c, e)`: that channel's scale in the image's row of the table, times
    the image's element, plus the channel's shift in the same row. -/
theorem resultOf_apply (x : FVec F S32x384x32x32 .f32) (y : IVec S32 32) (hy : ∀ j, (y j).toNat < 1000) (t : FVec F S1000x768 .f32)
    (a : Fin 32) (b : Fin 384) (c e : Fin 32) :
    resultOf x y t (at4 a b c e)
      = FloatOps.addf (φ := .f32)
          (FloatOps.mulf (φ := .f32) (t (at2 (rowNo (y (at1 a))) (⟨0 + b.val, by omega⟩ : Fin 768))) (x (at4 a b c e)))
          (t (at2 (rowNo (y (at1 a))) (⟨384 + b.val, by omega⟩ : Fin 768))) := by
  show FloatOps.addf (φ := .f32) (FloatOps.mulf (φ := .f32) (broadcastInDim _ _ _ _ _) _) (broadcastInDim _ _ _ _ _) = _
  rw [half_apply _ 0 (by decide), half_apply _ 384 (by decide), taken_apply y hy, taken_apply y hy]

end Cert.Proof.Reference

end
-- ==== Proof.Value.lean ====
/-
  The claims' value: the program's result is the reference's.

  An element of the program's result is the image's element times its channel's scale plus its channel's shift, read from
  the image's row of the table; the reference's multiplies in the other order. Over the extended reals the order doesn't
  matter.
-/
module

public import proofs.«01_k».proof.Proof.Main
public import proofs.«01_k».proof.Proof.RefValue
public import proofs.«01_k».proof.Proof.Gen.ReferenceIdeal.Run
public import proofs.«01_k».proof.Proof.Gen.Pre_in_rows

@[expose] public section

noncomputable section

namespace Cert.Proof.Rows

open Cert.KernelIdeal Cert.KernelIdeal.Gen
open Cert.Proof.Reference (at4)
open Idealize.ShloMosaic Idealize.SL.Sem

variable {F : FTy → Type} [FloatOps F]

/-- The row of the list of pixels that image `a`'s pixel `(c, e)` has. -/
abbrev pixelRow (a : Fin 32) (c e : Fin 32) : Fin 32768 := ⟨(a.val * 32 + c.val) * 32 + e.val, by omega⟩

/-- The list of pixels, read where image `a`'s pixel `(c, e)` lies. -/
theorem pixels_apply (x : Vec F S32x384x32x32 .f32) (a : Fin 32) (b : Fin 384) (c e : Fin 32) :
    pixels x (at2 (pixelRow a c e) b) = x (at4 a b c e) := by
  unfold pixels
  refine (shapeCast_apply _ shapeCasts_S32x32x32x384_S32768x384 _ (at4 a c e b) ?_).trans ?_
  · exact (Shape.rowMajor_val_four (at4 a c e b)).trans (Shape.rowMajor_val_two (at2 (pixelRow a c e) b)).symm
  · exact transpose_apply _ x _ _ _ fun k => by fin_cases k <;> rfl

/-- An element of the program's result. -/
theorem outOf_apply (g : Vec F S32x768 .f32) (x : Vec F S32x384x32x32 .f32) (a : Fin 32) (b : Fin 384) (c e : Fin 32) :
    outOf g x (at4 a b c e)
      = FloatOps.addf (φ := .f32) (FloatOps.mulf (φ := .f32) (x (at4 a b c e)) (g (at2 a (⟨b.val, by omega⟩ : Fin 768))))
          (g (at2 a (⟨384 + b.val, by omega⟩ : Fin 768))) := by
  unfold outOf
  refine (transpose_apply _ _ _ _ (at4 a c e b) fun k => by fin_cases k <;> rfl).trans ?_
  refine (shapeCast_apply _ shapeCasts_S32768x384_S32x32x32x384 _ (at2 (pixelRow a c e) b) ?_).trans ?_
  · exact (Shape.rowMajor_val_two (at2 (pixelRow a c e) b)).trans (Shape.rowMajor_val_four (at4 a c e b)).symm
  · have ha : imageOfAll (at2 (pixelRow a c e) b) = a := Fin.ext (show ((a.val * 32 + c.val) * 32 + e.val) / 1024 = a.val by omega)
    show FloatOps.addf (φ := .f32) (FloatOps.mulf (φ := .f32) (pixels x (at2 (pixelRow a c e) b)) (g (at2 (imageOfAll (at2 (pixelRow a c e) b)) _)))
      (g (at2 (imageOfAll (at2 (pixelRow a c e) b)) _)) = _
    rw [pixels_apply, ha]
    rfl

/-- Every index of the image's shape is its four coordinates'. -/
theorem eq_at4 (i : S32x384x32x32.Idx) : ∃ (a : Fin 32) (b : Fin 384) (c e : Fin 32), i = at4 a b c e :=
  ⟨i 0, i 1, i 2, i 3, funext fun k => by fin_cases k <;> rfl⟩

/-- Over the extended reals the program's result is the reference's, for indices in the table's range. -/
theorem outOf_eq (m : (ℓ : Loc nD τ sig) → Buf (Elt Ideal) ℓ) (hpre : PreOK (F := Ideal) m) (d : Dev nD) :
    outOf (gath m d) (m (xLoc d)) = Cert.Proof.Reference.resultOf (F := Ideal) (m (xLoc d)) (m (yLoc d)) (m (tLoc d)) := by
  funext i
  obtain ⟨a, b, c, e, rfl⟩ := eq_at4 i
  refine (outOf_apply (F := Ideal) (gath m d) (m (xLoc d)) a b c e).trans
    (Eq.trans ?_ (Cert.Proof.Reference.resultOf_apply (F := Ideal) (m (xLoc d)) (m (yLoc d)) (hpre d) (m (tLoc d)) a b c e).symm)
  have hb : (⟨0 + b.val, by omega⟩ : Fin 768) = ⟨b.val, by omega⟩ := Fin.ext (Nat.zero_add _)
  rw [hb]
  have swap (p q r : EReal) : FloatOps.addf (F := Ideal) (φ := .f32) (FloatOps.mulf (F := Ideal) (φ := .f32) p q) r
      = FloatOps.addf (F := Ideal) (φ := .f32) (FloatOps.mulf (F := Ideal) (φ := .f32) q p) r := by
    show p * q + r = q * p + r
    rw [mul_comm]
  exact swap _ _ _

/-- The precondition's word for one index: non-negative and below a thousand as a signed word, so below a thousand. -/
theorem word_in_rows (v : BitVec 32) (e : IntOp.andi (IntOp.cmpi .sge v 0#32) (IntOp.cmpi .slt v 1000#32) = 1#1) : v.toNat < 1000 := by
  have ones (p q : Bool) : IntOp.andi (BitVec.ofBool p) (BitVec.ofBool q) = 1#1 → p = true ∧ q = true := by
    cases p <;> cases q <;> decide
  obtain ⟨h0, h1⟩ := ones (BitVec.sle 0#32 v) (BitVec.slt v 1000#32) e
  rw [BitVec.sle_eq_decide, decide_eq_true_eq, BitVec.toInt_zero, BitVec.toInt_eq_toNat_cond] at h0
  rw [BitVec.slt_eq_decide, decide_eq_true_eq, BitVec.toInt_eq_toNat_cond, show (1000#32 : BitVec 32).toInt = 1000 by decide] at h1
  omega

/-- The claims' precondition is the proof's. -/
theorem in_rows_ok (m : (ℓ : Loc nD τ sig) → Buf (Elt F) ℓ)
    (h : ∀ c : Dev nD, Cert.Pre_in_rows.fn (F := F) (m (xLoc c)) (m (yLoc c)) (m (tLoc c)) = fun _ => 1#1) : PreOK m :=
  fun d j => word_in_rows _ (congrFun (h d) j)

end Cert.Proof.Rows

end
-- ==== Proof.lean ====
/-
  The proof of the certificate's claims.

  The three frames and the value claim are read off two runs: the program's (`Rows.run_main`, whose result is named as a
  function of its arguments) and the reference's. The value claim then needs one equation, `Rows.outOf_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_rows
public import proofs.«01_k».proof.Proof.Value

@[expose] public section

noncomputable section

namespace Cert.Proof

open Idealize.ShloMosaic Idealize.SL.Sem
open Cert.Proof.Rows (QC run_main in_rows_ok outOf_eq outOf gath)

/-- The idealized program's run with the value dropped, at any float values. -/
theorem kernel_words {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (ok : Cert.Proof.Rows.PreOK m) :
    θ_run (Cert.KernelIdeal.defs (F := F)) (Cert.KernelIdeal.threads (F := F)) ⟨m, fun _ => 0, ρ⟩ fun r =>
      (∀ c : Dev Cert.KernelIdeal.nD, r.2.mem (Cert.Proof.Rows.xLoc c) = m (Cert.Proof.Rows.xLoc c)
        ∧ r.2.mem (Cert.Proof.Rows.yLoc c) = m (Cert.Proof.Rows.yLoc c) ∧ r.2.mem (Cert.Proof.Rows.tLoc c) = m (Cert.Proof.Rows.tLoc c))
      ∧ r.2.sem = fun _ => 0 :=
  (θ_run (Cert.KernelIdeal.defs (F := F)) _ _).mono (fun _ h => ⟨fun c => ⟨(h.1 c).1, (h.1 c).2.1, (h.1 c).2.2.1⟩, h.2⟩)
    (run_main (F := F) m ρ ok)

section Kernel
attribute [local instance] Cert.Kernel.Gen.facts Cert.KernelIdeal.Gen.facts

/-- The two programs' kernels are the same text: on each processor, under each label, the same body. -/
theorem same_bodies {F : FTy → Type} [FloatOps F] : Cert.Kernel.defs₀ (F := F) = Cert.KernelIdeal.defs₀ (F := F) := by
  funext c l x
  match c, l, x with
  | .tc, 0, _ => rfl
  | .tc, 1, (_, _) => rfl
  | .scScalar _, 0, _ => rfl
  | .scScalar _, 1, _ => rfl
  | .scVector _ _, 0, _ => rfl
  | .scVector _ _, 1, _ => rfl

/-- So their tables of bodies are the same. -/
theorem same_table {F : FTy → Type} [FloatOps F] : Cert.Kernel.defs (F := F) = Cert.KernelIdeal.defs (F := F) :=
  congrArg (fun D => (Cert.Kernel.sc (F := F)).defs (Pipeline.defs Cert.Kernel.pcfgs D)) same_bodies

end Kernel

/-- The program ends, its arguments as they were and every counter at zero, on the machine's own words. -/
theorem kernel_frame : quiescent_Kernel (hKernel := Cert.Kernel.Gen.facts) (hPre_in_rows := Cert.Pre_in_rows.Gen.facts) := by
  intro m ρ hpre
  rw [same_table (F := Bits)]
  exact kernel_words (F := Bits) m ρ (in_rows_ok (F := Bits) m hpre)

/-- The same over the extended reals. -/
theorem kernelIdeal_frame : quiescent_KernelIdeal (hKernelIdeal := Cert.KernelIdeal.Gen.facts) (hPre_in_rows := Cert.Pre_in_rows.Gen.facts) := fun m ρ hpre =>
  kernel_words (F := Ideal) m ρ (in_rows_ok (F := Ideal) m hpre)

/-- The reference ends, its arguments as they were; it has no counter, so each reads zero. -/
theorem reference_frame : quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The program's result over the extended reals is the reference's, for indices in the table's range. -/
theorem same_result : algebraic_KernelIdeal_ReferenceIdeal (hKernelIdeal := Cert.KernelIdeal.Gen.facts)
    (hReferenceIdeal := Cert.ReferenceIdeal.Gen.facts) (hPre_in_rows := Cert.Pre_in_rows.Gen.facts) := by
  intro m ρ m' ρ' hpre hargs
  have ok := in_rows_ok (F := Ideal) m hpre
  refine ⟨fun c => outOf (gath m c) (m (Cert.Proof.Rows.xLoc c)), ?_, ?_⟩
  · exact (θ_run (Cert.KernelIdeal.defs (F := Ideal)) _ _).mono
      (fun _ h c => ⟨(h.1 c).2.2.2, (h.1 c).1, (h.1 c).2.1, (h.1 c).2.2.1⟩) (run_main (F := Ideal) m ρ ok)
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2⟩ := hargs c
    rw [h0, h1, h2]
    exact (outOf_eq m ok c).symm

theorem claim : Cert.Claim :=
  ⟨Cert.Kernel.Gen.facts, Cert.KernelIdeal.Gen.facts, Cert.ReferenceIdeal.Gen.facts, Cert.Pre_in_rows.Gen.facts,
    kernel_frame, kernelIdeal_frame, reference_frame, fun m ρ _ => reference_frame m ρ trivial, trivial, same_result⟩

end Cert.Proof

end
